-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v4_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1024x3072 : Shape := ⟨3, ![2, 1024, 3072]⟩
abbrev S2x1024x1 : Shape := ⟨3, ![2, 1024, 1]⟩
abbrev S3072x4608 : Shape := ⟨2, ![3072, 4608]⟩
abbrev S4608 : Shape := ⟨1, ![4608]⟩
abbrev S2048x3072 : Shape := ⟨2, ![2048, 3072]⟩
abbrev S16x128 : Shape := ⟨2, ![16, 128]⟩
abbrev S36x128 : Shape := ⟨2, ![36, 128]⟩
abbrev S2048x4608 : Shape := ⟨2, ![2048, 4608]⟩
abbrev S256x3072 : Shape := ⟨2, ![256, 3072]⟩
abbrev S256x4608 : Shape := ⟨2, ![256, 4608]⟩
abbrev S2x128 : Shape := ⟨2, ![2, 128]⟩
abbrev S1x128 : Shape := ⟨2, ![1, 128]⟩
abbrev S128x128 : Shape := ⟨2, ![128, 128]⟩
abbrev S256x128 : Shape := ⟨2, ![256, 128]⟩
abbrev S3072x512 : Shape := ⟨2, ![3072, 512]⟩
abbrev S256x512 : Shape := ⟨2, ![256, 512]⟩
abbrev S256 : Shape := ⟨1, ![256]⟩
abbrev S256x1 : Shape := ⟨2, ![256, 1]⟩
abbrev S128 : Shape := ⟨1, ![128]⟩

abbrev nBuf : Space → Nat
  | .hbm => 11
  | .vmem => 10
  | .smem => 0
  | _ => 0

abbrev bufTy : (tb : Table) → Fin (tcTables nBuf tb) → BufTy
  | .hbm, ⟨0, _⟩ => ⟨S2x1024x3072, .fp8e4m3⟩
  | .hbm, ⟨1, _⟩ => ⟨S2x1024x1, .f32⟩
  | .hbm, ⟨2, _⟩ => ⟨S3072x4608, .fp8e4m3⟩
  | .hbm, ⟨3, _⟩ => ⟨S4608, .f32⟩
  | .hbm, ⟨4, _⟩ => ⟨S4608, .f32⟩
  | .hbm, ⟨5, _⟩ => ⟨S2048x3072, .fp8e4m3⟩
  | .hbm, ⟨6, _⟩ => ⟨S16x128, .f32⟩
  | .hbm, ⟨7, _⟩ => ⟨S36x128, .f32⟩
  | .hbm, ⟨8, _⟩ => ⟨S36x128, .f32⟩
  | .hbm, ⟨9, _⟩ => ⟨S16x128, .f32⟩
  | .hbm, ⟨10, _⟩ => ⟨S2048x4608, .fp8e4m3⟩
  | .local _ .vmem, ⟨0, _⟩ => ⟨S256x3072, .fp8e4m3⟩
  | .local _ .vmem, ⟨1, _⟩ => ⟨S256x3072, .fp8e4m3⟩
  | .local _ .vmem, ⟨2, _⟩ => ⟨S16x128, .f32⟩
  | .local _ .vmem, ⟨3, _⟩ => ⟨S3072x4608, .fp8e4m3⟩
  | .local _ .vmem, ⟨4, _⟩ => ⟨S36x128, .f32⟩
  | .local _ .vmem, ⟨5, _⟩ => ⟨S36x128, .f32⟩
  | .local _ .vmem, ⟨6, _⟩ => ⟨S16x128, .f32⟩
  | .local _ .vmem, ⟨7, _⟩ => ⟨S256x4608, .fp8e4m3⟩
  | .local _ .vmem, ⟨8, _⟩ => ⟨S256x4608, .fp8e4m3⟩
  | .local _ .vmem, ⟨9, _⟩ => ⟨S256x4608, .f32⟩
  | _, _ => ⟨S2x1024x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c2_i32 : BitVec 32 := 2#32
  let v0 : BitVec 32 := Scalar.muli arg0 c2_i32
  let v1 : Index := Scalar.indexCast v0
  let c0 : Index := 0#32
  ![v1.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072x4608 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S36x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S36x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4608 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S2x1024x3072 : Shape := ⟨3, ![2, 1024, 3072]⟩
abbrev S2x1024x1 : Shape := ⟨3, ![2, 1024, 1]⟩
abbrev S3072x4608 : Shape := ⟨2, ![3072, 4608]⟩
abbrev S4608 : Shape := ⟨1, ![4608]⟩
abbrev S2048x3072 : Shape := ⟨2, ![2048, 3072]⟩
abbrev S2048x1 : Shape := ⟨2, ![2048, 1]⟩
abbrev S1x4608 : Shape := ⟨2, ![1, 4608]⟩
abbrev S2048x4608 : Shape := ⟨2, ![2048, 4608]⟩
abbrev S2048 : Shape := ⟨1, ![2048]⟩
abbrev S1x254 : Shape := ⟨2, ![1, 254]⟩
abbrev S2048x254 : Shape := ⟨2, ![2048, 254]⟩
abbrev S16x128 : Shape := ⟨2, ![16, 128]⟩

abbrev nBuf : Space → Nat
  | .hbm => 12
  | .vmem => 7
  | .smem => 0
  | _ => 0

abbrev bufTy : (tb : Table) → Fin (tcTables nBuf tb) → BufTy
  | .hbm, ⟨0, _⟩ => ⟨S2x1024x3072, .fp8e4m3⟩
  | .hbm, ⟨1, _⟩ => ⟨S2x1024x1, .f32⟩
  | .hbm, ⟨2, _⟩ => ⟨S3072x4608, .fp8e4m3⟩
  | .hbm, ⟨3, _⟩ => ⟨S4608, .f32⟩
  | .hbm, ⟨4, _⟩ => ⟨S4608, .f32⟩
  | .hbm, ⟨5, _⟩ => ⟨S2048x3072, .fp8e4m3⟩
  | .hbm, ⟨6, _⟩ => ⟨S2048x1, .f32⟩
  | .hbm, ⟨7, _⟩ => ⟨S1x4608, .f32⟩
  | .hbm, ⟨8, _⟩ => ⟨S1x4608, .f32⟩
  | .hbm, ⟨9, _⟩ => ⟨S2048x1, .f32⟩
  | .hbm, ⟨10, _⟩ => ⟨S2048x4608, .fp8e4m3⟩
  | .hbm, ⟨11, _⟩ => ⟨S16x128, .f32⟩
  | .local _ .vmem, ⟨0, _⟩ => ⟨S2048x3072, .fp8e4m3⟩
  | .local _ .vmem, ⟨1, _⟩ => ⟨S2048x1, .f32⟩
  | .local _ .vmem, ⟨2, _⟩ => ⟨S3072x4608, .fp8e4m3⟩
  | .local _ .vmem, ⟨3, _⟩ => ⟨S1x4608, .f32⟩
  | .local _ .vmem, ⟨4, _⟩ => ⟨S1x4608, .f32⟩
  | .local _ .vmem, ⟨5, _⟩ => ⟨S2048x1, .f32⟩
  | .local _ .vmem, ⟨6, _⟩ => ⟨S2048x4608, .fp8e4m3⟩
  | _, _ => ⟨S2x1024x3072, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2048x3072 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x4608 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4608 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x4608 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x4608 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelFrame.lean ====
/- The frame of the kernel as printed: every execution ends, the arguments unchanged. Nothing is said of what the kernel
   leaves in its two results; KernelIdeal's run says that. -/
module

public import proofs.«01_k».proof.Proof.Gen.Kernel.Frame
public import proofs.«01_k».proof.Proof.Gen.Kernel.Skeleton
public import Idealize.ShloMosaic.Lib.Pipeline.DatRel
public import Idealize.ShloMosaic.Lib.Pipeline.ArrRel

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel)

variable {F : FTy → Type} [FloatOps F]

local notation "𝕄" => MT nD τ sig Unit (Elt F) ℕ (UR sig nD τ) ℕ

/-! ## The body -/

set_option maxHeartbeats 1484000 in
/-- The body, run on whole buffers holding the five inputs and anything in the two outputs and the scratch, ends with the
    inputs unchanged. -/
theorem body_runs (c : Dev nD) (i : grid0.Coords) (arg1 : Memref sig .tc .vmem S256x3072 .fp8e4m3) (harg1 : arg1.IsWhole) (arg2 : Memref sig .tc .vmem S16x128 .f32) (harg2 : arg2.IsWhole) (arg3 : Memref sig .tc .vmem S3072x4608 .fp8e4m3) (harg3 : arg3.IsWhole) (arg4 : Memref sig .tc .vmem S36x128 .f32) (harg4 : arg4.IsWhole) (arg5 : Memref sig .tc .vmem S36x128 .f32) (harg5 : arg5.IsWhole) (arg6 : Memref sig .tc .vmem S16x128 .f32) (harg6 : arg6.IsWhole) (arg7 : Memref sig .tc .vmem S256x4608 .fp8e4m3) (harg7 : arg7.IsWhole) (arg8 : Memref sig .tc .vmem S256x4608 .f32) (harg8 : arg8.IsWhole)
    (x0 : Vec F S256x3072 .fp8e4m3) (x1 : Vec F S16x128 .f32) (x2 : Vec F S3072x4608 .fp8e4m3) (x3 : Vec F S36x128 .f32) (x4 : Vec F S36x128 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d)) -∗ K ⟨⟩))
      ⊢ wp frame (wpE (defs₀ (F := F)) Variants.none c none) E (cc0_fp8_linear_requant i arg1 harg1 arg2 harg2 arg3 harg3 arg4 harg4 arg5 harg5 arg6 harg6 arg7 harg7 arg8 harg8) K := by
  simp only [cc0_fp8_linear_requant_eq_skeleton]; unfold cc0_fp8_linear_requant_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, Hk⟩
  obtain rfl := harg1.eq_unread hf0; obtain rfl := harg2.eq_unread hf1; obtain rfl := harg3.eq_unread hf2; obtain rfl := harg4.eq_unread hf3; obtain rfl := harg5.eq_unread hf4
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; iexists _; isplitr
    swap; · iexact H5
    ipureintro; rfl
  isplitl [H6]
  · iexists _; iexists _; isplitr
    swap; · iexact H6
    ipureintro; rfl
  iexists _; iexists _; isplitr
  swap; · iexact HS0
  ipureintro; rfl

variable (m : (ℓ : Loc nD τ sig) → Buf (Elt F) ℓ) (ρ : Dev nD → PrngReg)

/-! ## The buffers of a step -/

/-- Each window's current buffer at a step, and that it is a whole buffer. -/
abbrev ms0 (t : Fin cfg0.N) : Memref sig .tc .vmem S256x3072 .fp8e4m3 := win0_0.stage (cfg0.slots t 0)
abbrev hs0 (t : Fin cfg0.N) : (ms0 t).IsWhole := hstage0_0 ((cfg0.slots t 0).cast nbuf0_0)
abbrev ms1 (t : Fin cfg0.N) : Memref sig .tc .vmem S16x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S3072x4608 .fp8e4m3 := win0_2.stage (cfg0.slots t 2)
abbrev hs2 (t : Fin cfg0.N) : (ms2 t).IsWhole := hstage0_2 ((cfg0.slots t 2).cast nbuf0_2)
abbrev ms3 (t : Fin cfg0.N) : Memref sig .tc .vmem S36x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S36x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S16x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x4608 .fp8e4m3 := win0_6.stage (cfg0.slots t 6)
abbrev hs6 (t : Fin cfg0.N) : (ms6 t).IsWhole := hstage0_6 ((cfg0.slots t 6).cast nbuf0_6)
/-- The scratch. -/
abbrev scratch : Memref sig .tc .vmem S256x4608 .f32 := Memref.whole cc0_scratch0

/-- The invariant between steps: the scratch at some contents, and the generator register at some value. -/
theorem phi_eq (c : Dev nD) :
    (Pipeline.ΦA spec0 c : sProp 𝕄)
      = iprop(iprop((∃ d, owns (c : Thread nD τ) scratch fullShare d)) ∗ (∃ r, prngReg c r)) := by
  unfold Pipeline.ΦA; rw [scopedRest0_eq]; simp only [scratch, owns_whole]; try rfl

/-! ## The proof data -/

/-- After step `t` an input's buffer holds its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => Dat.unnamed (Val := Elt F) (cfg := cfg0) 5 t
    | ⟨6, _⟩ => Dat.unnamed (Val := Elt F) (cfg := cfg0) 6 t
  Φ _ := Pipeline.ΦA spec0 c
  q _ := fullShare
  owed _ := 0

/-- Of the two output windows nothing is said: -/
def marked : Fin cfg0.W → Bool := fun w => match w with
  | ⟨0, _⟩ => false | ⟨1, _⟩ => false | ⟨2, _⟩ => false | ⟨3, _⟩ => false | ⟨4, _⟩ => false | ⟨5, _⟩ => true | ⟨6, _⟩ => true
/-- they are held to the predicate that is always true. -/
def held (c : Dev nD) : (w : Fin cfg0.W) → Fin cfg0.N → ((cfg0.win w).block.Idx → Elt F (cfg0.win w).elt) → Prop :=
  fun _ _ _ => True

/-- The proof data with the output windows held to that. -/
abbrev rdat (c : Dev nD) : RDat τ (Elt F) Unit ℕ (UR sig nD τ) ℕ cfg0 c := (dats m 0 c).toRRel marked (held c)

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]

/-- An input's buffer holds its block before each step. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-! ## The body's triple -/

/-- What the body is given at step `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ Y, ⌜(rdat m c).Finds 5 t Y⌝ ∗ owns (c : Thread nD τ) (ms5 t) fullShare Y)
    ∗ (∃ Y, ⌜(rdat m c).Finds 6 t Y⌝ ∗ owns (c : Thread nD τ) (ms6 t) fullShare Y))

/-- and what it gives back. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ (∃ X, ⌜held c 5 t X⌝ ∗ owns (c : Thread nD τ) (ms5 t) fullShare X)
    ∗ (∃ X, ⌜held c 6 t X⌝ ∗ owns (c : Thread nD τ) (ms6 t) fullShare X))

set_option maxHeartbeats 800000 in
/-- The body's triple at step `t`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4]
  rw [show (dats m 0 c).Φ t.castSucc = Pipeline.ΦA spec0 c from rfl, phi_eq]
  iintro ⟨⟨HS0, Hg⟩, Ho, ⟨%d0, H0⟩, ⟨%d1, H1⟩, ⟨%d2, H2⟩, ⟨%d3, H3⟩, ⟨%d4, H4⟩, ⟨%Y, %hY, H5⟩, ⟨%Y6, %hY6, H6⟩⟩
  iapply (body_runs c (grid0.coords t) (ms0 t) (hs0 t) (ms1 t) (hs1 t) (ms2 t) (hs2 t) (ms3 t) (hs3 t) (ms4 t) (hs4 t)
    (ms5 t) (hs5 t) (ms6 t) (hs6 t) scratch (Memref.isWhole_whole _) (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexact HS0
  iintro ⟨H0, H1, H2, H3, H4, ⟨%e5, H5⟩, ⟨%e6, H6⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · iexists e5; isplitr; · ipureintro; trivial
    iexact H5
  iexists e6; isplitr; · ipureintro; trivial
  iexact H6

/-- The body table's row at step `t`. -/
theorem defs₀_row (t : Fin cfg0.N) :
    defs₀ (F := F) .tc cfg0.body (cfg0.bodyArgs t (cfg0.slots t)) = bodyAt0 t := by
  unfold defs₀; rw [Defs.onTc_tc]

/-- The body obligation. -/
theorem body_obligation (c : Dev nD) :
    BodyObligationRel (dats (F := F) m 0 c) (defs₀ (F := F)) Variants.none () Set.univ marked (held c) := fun t => by
  rw [bigSep_W0, bigSep_W0, defs₀_row]
  exact triple_restated (sound_body m c t) rfl .rfl fun _ => .rfl

/-! ## The launch -/

set_option backward.isDefEq.respectTransparency.types false in
/-- Every execution ends, each array at contents the proof data allow, and every counter at zero. -/
theorem run_quiescent : θ_run defs (onTc (τ := τ) (main (F := F))) (s₀ m ρ)
    (fun r => (RDat.FramePost cfg0 (rdat m) (V m)) r ∧ r.2.sem = fun _ => 0) :=
  RDat.θ_run_frame (Q' := _) cfgs (0 : Fin 1) launch0 defs₀ Variants.none (rdat m) m ρ main
    (hbody := fun c => (body_obligation m c).toRRel) (hshare := fun c => (rdat m c).share_full fun _ => rfl)
    (howed := fun _ _ => rfl) (V := V m) (hmain := hmain m Variants.none) (hA := A_eq m) (hΦ := fun _ _ => rfl)

variable {m}
variable {r : PUnit × MemSt nD τ sig (Elt F)} (h : RDat.FramePost cfg0 (rdat m) (V m) r) (c : Dev nD)
include h

theorem kept_arg0 : r.2.mem ((c : Thread nD τ).loc main_arg0) = m ((c : Thread nD τ).loc main_arg0) :=
  ((h c).2 main_arg0 (Pipeline.mem_restRefs_of main_arg0 (by decide) (by decide))).trans (V_main_arg0 m c)
theorem kept_arg1 : r.2.mem ((c : Thread nD τ).loc main_arg1) = m ((c : Thread nD τ).loc main_arg1) :=
  ((h c).2 main_arg1 (Pipeline.mem_restRefs_of main_arg1 (by decide) (by decide))).trans (V_main_arg1 m c)
theorem kept_arg2 : r.2.mem ((c : Thread nD τ).loc main_arg2) = m ((c : Thread nD τ).loc main_arg2) :=
  (RDat.FramePost.arr_in h c 2 rfl).trans ((A_eq m c 2).trans (V_main_arg2 m c))
theorem kept_arg3 : r.2.mem ((c : Thread nD τ).loc main_arg3) = m ((c : Thread nD τ).loc main_arg3) :=
  ((h c).2 main_arg3 (Pipeline.mem_restRefs_of main_arg3 (by decide) (by decide))).trans (V_main_arg3 m c)
theorem kept_arg4 : r.2.mem ((c : Thread nD τ).loc main_arg4) = m ((c : Thread nD τ).loc main_arg4) :=
  ((h c).2 main_arg4 (Pipeline.mem_restRefs_of main_arg4 (by decide) (by decide))).trans (V_main_arg4 m c)

omit h c in
/-- The kernel's frame: every execution ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨kept_arg0 h.1 c, kept_arg1 h.1 c, kept_arg2 h.1 c, kept_arg3 h.1 c, kept_arg4 h.1 c⟩, h.2⟩)
    (run_quiescent m ρ)

end Cert.Kernel.Hand

end
-- ==== Proof.BodyRun.lean ====
/- The body of the kernel, run once: what its stores leave in each buffer, as the list of the stored pieces. -/
module

public import proofs.«01_k».proof.Proof.Gen.KernelIdeal.Frame
public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1484000 in
/-- The body's stores into the scale window, the code window and the scratch, each as a list of pieces, last first,
    with the proof that the body leaves exactly those: run on whole buffers holding the five inputs, with the scale
    window holding `Y` and the code window and the scratch holding anything, it ends with the inputs unchanged and each
    of the three other buffers overwritten by its pieces. -/
noncomputable def bodyRun (c : Dev nD) (i : grid0.Coords) (arg1 : Memref sig .tc .vmem S256x3072 .fp8e4m3) (harg1 : arg1.IsWhole) (arg2 : Memref sig .tc .vmem S16x128 .f32) (harg2 : arg2.IsWhole) (arg3 : Memref sig .tc .vmem S3072x4608 .fp8e4m3) (harg3 : arg3.IsWhole) (arg4 : Memref sig .tc .vmem S36x128 .f32) (harg4 : arg4.IsWhole) (arg5 : Memref sig .tc .vmem S36x128 .f32) (harg5 : arg5.IsWhole) (arg6 : Memref sig .tc .vmem S16x128 .f32) (harg6 : arg6.IsWhole) (arg7 : Memref sig .tc .vmem S256x4608 .fp8e4m3) (harg7 : arg7.IsWhole) (arg8 : Memref sig .tc .vmem S256x4608 .f32) (harg8 : arg8.IsWhole)
    (x0 : Vec F S256x3072 .fp8e4m3) (x1 : Vec F S16x128 .f32) (x2 : Vec F S3072x4608 .fp8e4m3) (x3 : Vec F S36x128 .f32) (x4 : Vec F S36x128 .f32) (Y : Vec F S16x128 .f32) :
    Σ' (L5 : List (View.Piece (Elt F) S16x128 .f32)), Σ' (L6 : List (View.Piece (Elt F) S256x4608 .fp8e4m3)), { LT0 : List (View.Piece (Elt F) S256x4608 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare Y ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (arg6.view.loc (c : Thread nD τ) ↦[arg6.view.set]{fullShare} arg6.view.writes (Elt F) (harg6.unread Y) L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f LT0)) -∗ K ⟨⟩))
          ⊢ wp frame (wpE (defs₀ (F := F)) Variants.none c none) E (cc0_fp8_linear_requant i arg1 harg1 arg2 harg2 arg3 harg3 arg4 harg4 arg5 harg5 arg6 harg6 arg7 harg7 arg8 harg8) K } := by
  refine ⟨?_, ?_, ?_, fun E K => ?run⟩
  case run =>
    simp only [cc0_fp8_linear_requant_eq_skeleton]; unfold cc0_fp8_linear_requant_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexact H5
    isplitl [H6]; · iexists _; iexact H6
    iexists _; iexact HS0

end Cert.KernelIdeal.Hand

end
-- ==== Proof.Block.lean ====
/- What one step of the kernel computes, written once for all of its 36 column tiles: the printed program repeats the
   same lines per tile, here they are functions of the tile's number. -/
module

public import proofs.«01_k».proof.Proof.Gen.KernelIdeal.Skeleton

@[expose] public section

noncomputable section

namespace Cert.KernelIdeal.Hand

open Cert.KernelIdeal Cert.KernelIdeal.Gen
open Idealize.ShloMosaic Idealize.ShloMosaic.TcCoe

variable {F : FTy → Type} [FloatOps F]

/-! ## Where the tiles lie -/

/-- The 128 columns of tile `k` in the 256 × 4608 block. -/
theorem tile_inb (k : Fin 36) : ∀ a, (![0, 128 * k.val] : Fin 2 → ℕ) a + S256x128.size a ≤ S256x4608.size a := by
  intro a; have := k.isLt; fin_cases a <;> simp [Shape.size] <;> omega

/-- The rectangle of tile `k` in the 256 × 4608 block. -/
abbrev tileRect (k : Fin 36) : Rect S256x4608 := Rect.unit ![0, 128 * k.val] S256x128.size (tile_inb k)

/-- The 512 weight columns of group `j`. -/
theorem cols_inb (j : Fin 9) : ∀ a, (![0, 512 * j.val] : Fin 2 → ℕ) a + S3072x512.size a ≤ S3072x4608.size a := by
  intro a; have := j.isLt; fin_cases a <;> simp [Shape.size] <;> omega

/-- Row `k` of the 36 × 128 arrays of column scales and biases. -/
theorem row_inb (k : Fin 36) : ∀ a, (![k.val, 0] : Fin 2 → ℕ) a + S1x128.size a ≤ S36x128.size a := by
  intro a; have := k.isLt; fin_cases a <;> simp [Shape.size] <;> omega

/-- A tile's 128 columns among the 512 of its group. -/
theorem tile_slices (k : Fin 36) : S256x512.Slices ![0, 128 * (k.val % 4)] S256x128 := by
  refine ⟨rfl, fun a => ?_⟩; have := k.isLt; fin_cases a <;> simp [Shape.size] <;> omega

/-- The group of 512 columns that tile `k` lies in. -/
abbrev group (k : Fin 36) : Fin 9 := ⟨k.val / 4, by have := k.isLt; omega⟩

/-! ## What a step reads -/

/-- What one step loads: two rows of the token scales, its block of `x`, the weights in groups of 512 columns, and the
    column scales and the biases a row of 128 at a time. -/
structure Loads (F : FTy → Type) [FloatOps F] where
  xs : Vec F S2x128 .f32
  x : Vec F S256x3072 .fp8e4m3
  w : Fin 9 → Vec F S3072x512 .fp8e4m3
  ws : Fin 36 → Vec F S1x128 .f32
  b : Fin 36 → Vec F S1x128 .f32

variable (L : Loads F)

/-! ## The linear map and its scaling -/

/-- The products of the block of `x` with the 512 weight columns of group `j`. -/
def Loads.acc (j : Fin 9) : FVec F S256x512 .f32 :=
  matmul dot_S256x3072_S3072x512_S256x512_1_0_0_1_n_n none (k0_pay3 L.x) (L.w j) (constant S256x512 .f32 0x00000000#32)

/-- Tile `k` of `y`: the products, times the token scales, times the column scales, plus the biases. -/
def Loads.y (k : Fin 36) : FVec F S256x128 .f32 :=
  addf (mulf (mulf (extractStridedSlice S256x128 ![0, 128 * (k.val % 4)] (L.acc (group k)) (tile_slices k)) (k0_pay2 L.xs))
      (broadcastTo S256x128 (shapeCast S1x128 (L.ws k) shapeCasts_S1x128_S1x128) broadcasts_S1x128_S256x128))
    (broadcastTo S256x128 (shapeCast S1x128 (L.b k) shapeCasts_S1x128_S1x128) broadcasts_S1x128_S256x128)

/-- The largest `|y|` over the first `n` tiles, at each place of a tile. -/
def Loads.amax : (n : ℕ) → n ≤ 36 → FVec F S256x128 .f32
  | 0, _ => broadcast S256x128 (Scalar.ofBits .f32 0x00000000#32)
  | n + 1, h => maximumf (Loads.amax n (by omega)) (absf (L.y ⟨n, h⟩))

/-! ## The exponent of a row's scale -/

/-- One trial of the search for an exponent field: `bit` is added to the field found so far if `r` is at least the
    float of that larger field. -/
def trial (s : Shape) (r : FVec F s .f32) (bit : BitVec 32) (field : IVec s 32) : IVec s 32 :=
  select (cmpf .oge r (bitcastToFloat .f32 (shli (addi field (broadcast s bit)) (broadcast s 23#32))))
    (addi field (broadcast s bit)) field

/-- The exponent field of `r`, found bit by bit from the highest. -/
def field (s : Shape) (r : FVec F s .f32) : IVec s 32 :=
  trial s r 1#32 (trial s r 2#32 (trial s r 4#32 (trial s r 8#32 (trial s r 16#32 (trial s r 32#32 (trial s r 64#32
    (trial s r 128#32 (broadcast s 0#32))))))))

/-- The exponent of the scale of rows whose largest `|y|` is `a`: 0 of a row of zeros, else the exponent of `a / 448`. -/
def exponent (s : Shape) (a : FVec F s .f32) : IVec s 32 :=
  let t := field s (mulf a (broadcast s (Scalar.ofBits .f32 0x3B124925#32)))
  select (cmpf .oeq a (broadcast s (Scalar.ofBits .f32 0x00000000#32))) (broadcast s 0#32)
    (select (ori (cmpi .eq t (broadcast s 0#32)) (cmpi .eq t (broadcast s 255#32))) (broadcast s 0#32)
      (subi t (broadcast s 126#32)))

/-- The float whose exponent field is `n + 127`, held to a field. -/
def ldexpOne (s : Shape) (n : IVec s 32) : FVec F s .f32 :=
  bitcastToFloat .f32 (shli (minsi (broadcast s 255#32) (maxsi (broadcast s 0#32) (addi n (broadcast s 127#32))))
    (broadcast s 23#32))

/-! ## The codes and the scales -/

/-- The largest `|y|` of each row of the block, as a column. -/
def Loads.rowMax : FVec F S256x1 .f32 :=
  shapeCast S256x1 (multiReduction .maximumf [1] S256 (L.amax 36 le_rfl) 0xFF800000#32 reduces_S256x128_S256 (.inl rfl) rfl)
    shapeCasts_S256_S256x1

/-- What the block's rows are multiplied by: `2 ^ -e`. -/
def Loads.inv : FVec F S256x1 .f32 :=
  ldexpOne S256x1 (subi (broadcast S256x1 0#32) (exponent S256x1 L.rowMax))

/-- The codes of a tile `y`: each row times its factor, held to ±448, and rounded to the 8-bit format. -/
def codes (inv : FVec F S256x1 .f32) (y : Vec F S256x128 .f32) : FVec F S256x128 .fp8e4m3 :=
  truncf .fp8e4m3 (minimumf (broadcast S256x128 (Scalar.ofBits .f32 0x43E00000#32))
    (maximumf (broadcast S256x128 (Scalar.ofBits .f32 0xC3E00000#32)) (mulf y (broadcastTo S256x128 inv broadcasts_S256x1_S256x128))))
    bitsLt_fp8e4m3_f32

/-- The largest `|y|` of each row of the block, in lanes: 128 rows of the block in each of two rows. -/
def Loads.laneMax : FVec F S2x128 .f32 := k0_pay161 (k0_pay159 (L.amax 36 le_rfl)) (k0_pay160 (L.amax 36 le_rfl))

/-- The scales of the block's rows, in lanes. -/
def Loads.scale : FVec F S2x128 .f32 := ldexpOne S2x128 (exponent S2x128 L.laneMax)

/-! ## What is stored -/

/-- The stores of the first `n` tiles of `y` into the scratch, last first. -/
def Loads.yPieces : (n : ℕ) → n ≤ 36 → List (View.Piece (Elt F) S256x4608 .f32)
  | 0, _ => []
  | n + 1, h => ⟨tileRect ⟨n, h⟩, shapeCast S256x128 (L.y ⟨n, h⟩) shapeCasts_S256x128_S256x128⟩ :: Loads.yPieces n (by omega)

/-- The stores of the codes of the first `n` tiles, last first, from what is read back of the scratch. -/
def codePieces (inv : FVec F S256x1 .f32) (y : Fin 36 → Vec F S256x128 .f32) :
    (n : ℕ) → n ≤ 36 → List (View.Piece (Elt F) S256x4608 .fp8e4m3)
  | 0, _ => []
  | n + 1, h => ⟨tileRect ⟨n, h⟩, codes inv (y ⟨n, h⟩)⟩ :: codePieces inv y n (by omega)

end Cert.KernelIdeal.Hand

end
-- ==== Proof.BodyTerms.lean ====
/- The pieces that the run of the body found, in the vocabulary of Block.lean. -/
module

public import proofs.«01_k».proof.Proof.BodyRun
public import proofs.«01_k».proof.Proof.Block

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]

variable (c : Dev nD)
  (i : grid0.Coords)
  (arg1 : Memref sig .tc .vmem S256x3072 .fp8e4m3)
  (harg1 : arg1.IsWhole)
  (arg2 : Memref sig .tc .vmem S16x128 .f32)
  (harg2 : arg2.IsWhole)
  (arg3 : Memref sig .tc .vmem S3072x4608 .fp8e4m3)
  (harg3 : arg3.IsWhole)
  (arg4 : Memref sig .tc .vmem S36x128 .f32)
  (harg4 : arg4.IsWhole)
  (arg5 : Memref sig .tc .vmem S36x128 .f32)
  (harg5 : arg5.IsWhole)
  (arg6 : Memref sig .tc .vmem S16x128 .f32)
  (harg6 : arg6.IsWhole)
  (arg7 : Memref sig .tc .vmem S256x4608 .fp8e4m3)
  (harg7 : arg7.IsWhole)
  (arg8 : Memref sig .tc .vmem S256x4608 .f32)
  (harg8 : arg8.IsWhole)
  (x0 : Vec F S256x3072 .fp8e4m3) (x1 : Vec F S16x128 .f32) (x2 : Vec F S3072x4608 .fp8e4m3) (x3 : Vec F S36x128 .f32) (x4 : Vec F S36x128 .f32) (Y : Vec F S16x128 .f32)

/-- What the body loads, read through its buffers. -/
def readLoads : Loads F where
  xs := View.readAt (Elt F) arg2.view (Rect.unit (s := S16x128) (k0_off1 i) S2x128.size (k0_off1_inb i)).toLoadRect (harg2.unread x1)
  x := View.readAt (Elt F) arg1.view (Rect.unit (s := S256x3072) ![0, 0] S256x3072.size inb_S256x3072_S256x3072_0_0).toLoadRect (harg1.unread x0)
  w j := View.readAt (Elt F) arg3.view (Rect.unit (s := S3072x4608) ![0, 512 * j.val] S3072x512.size (cols_inb j)).toLoadRect (harg3.unread x2)
  ws k := View.readAt (Elt F) arg4.view (Rect.unit (s := S36x128) ![k.val, 0] S1x128.size (row_inb k)).toLoadRect (harg4.unread x3)
  b k := View.readAt (Elt F) arg5.view (Rect.unit (s := S36x128) ![k.val, 0] S1x128.size (row_inb k)).toLoadRect (harg5.unread x4)

/-- The stores into the scratch are the 36 tiles of `y`. -/
theorem scratch_pieces : (bodyRun c i arg1 harg1 arg2 harg2 arg3 harg3 arg4 harg4 arg5 harg5 arg6 harg6 arg7 harg7 arg8 harg8 x0 x1 x2 x3 x4 Y).2.2.1 = Loads.yPieces (readLoads i arg1 harg1 arg2 harg2 arg3 harg3 arg4 harg4 arg5 harg5 x0 x1 x2 x3 x4) 36 le_rfl := by
  sl_kernel_rfl

/-- The stores into the code window are the codes of the 36 tiles of `y`, read back of the scratch. -/
theorem code_pieces : (bodyRun c i arg1 harg1 arg2 harg2 arg3 harg3 arg4 harg4 arg5 harg5 arg6 harg6 arg7 harg7 arg8 harg8 x0 x1 x2 x3 x4 Y).2.1
    = codePieces (Loads.inv (readLoads i arg1 harg1 arg2 harg2 arg3 harg3 arg4 harg4 arg5 harg5 x0 x1 x2 x3 x4)) (fun k => arg8.view.readCov (Loads.yPieces (readLoads i arg1 harg1 arg2 harg2 arg3 harg3 arg4 harg4 arg5 harg5 x0 x1 x2 x3 x4) 36 le_rfl) (tileRect k).toLoadRect) 36 le_rfl := by
  sl_kernel_rfl

/-- The store into the scale window is of the two rows of the block's scales. -/
theorem scale_pieces : (bodyRun c i arg1 harg1 arg2 harg2 arg3 harg3 arg4 harg4 arg5 harg5 arg6 harg6 arg7 harg7 arg8 harg8 x0 x1 x2 x3 x4 Y).1
    = [⟨Rect.unit (k0_off1 i) S2x128.size (k0_off1_inb i), Loads.scale (readLoads i arg1 harg1 arg2 harg2 arg3 harg3 arg4 harg4 arg5 harg5 x0 x1 x2 x3 x4)⟩] := by
  sl_kernel_rfl

end Cert.KernelIdeal.Hand

end
-- ==== Proof.Readback.lean ====
/- What one step leaves in its buffers, as functions of the blocks it was given: the whole block of `y`, the whole block
   of codes, and the two rows of scales. -/
module

public import proofs.«01_k».proof.Proof.BodyTerms
public import Idealize.ShloMosaic.Lib.Pipeline.ValueKit
public import Idealize.ShloMosaic.Lib.ValueIdx

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.ValueIdx (idx2_lt0 idx2_lt1)

variable {F : FTy → Type} [FloatOps F]

/-- What step `i` loads of its five blocks. -/
def loads (i : grid0.Coords) (x0 : Vec F S256x3072 .fp8e4m3) (x1 : Vec F S16x128 .f32) (x2 : Vec F S3072x4608 .fp8e4m3)
    (x3 : Vec F S36x128 .f32) (x4 : Vec F S36x128 .f32) : Loads F where
  xs := View.ld x1 (Rect.unit (s := S16x128) (k0_off1 i) S2x128.size (k0_off1_inb i))
  x := x0
  w j := View.ld x2 (Rect.unit (s := S3072x4608) ![0, 512 * j.val] S3072x512.size (cols_inb j))
  ws k := View.ld x3 (Rect.unit (s := S36x128) ![k.val, 0] S1x128.size (row_inb k))
  b k := View.ld x4 (Rect.unit (s := S36x128) ![k.val, 0] S1x128.size (row_inb k))

/-- A load of a buffer holding `X` reads `X` at the places of the load. -/
theorem readAt_unread {s : Shape} {e : EltTy} (M : Memref sig .tc .vmem s e) (h : M.IsWhole) (X : Vec F s e) (r : Rect s) :
    View.readAt (Elt F) M.view r.toLoadRect (h.unread X) = View.ld X r := by
  rw [View.readAt_eq_ld, h.read_unread]

/-- What the body loads through its buffers is what the blocks hold. -/
theorem readLoads_eq (i : grid0.Coords)
  (arg1 : Memref sig .tc .vmem S256x3072 .fp8e4m3) (harg1 : arg1.IsWhole)
  (arg2 : Memref sig .tc .vmem S16x128 .f32) (harg2 : arg2.IsWhole)
  (arg3 : Memref sig .tc .vmem S3072x4608 .fp8e4m3) (harg3 : arg3.IsWhole)
  (arg4 : Memref sig .tc .vmem S36x128 .f32) (harg4 : arg4.IsWhole)
  (arg5 : Memref sig .tc .vmem S36x128 .f32) (harg5 : arg5.IsWhole)
  (x0 : Vec F S256x3072 .fp8e4m3) (x1 : Vec F S16x128 .f32) (x2 : Vec F S3072x4608 .fp8e4m3) (x3 : Vec F S36x128 .f32)
  (x4 : Vec F S36x128 .f32) :
    readLoads i arg1 harg1 arg2 harg2 arg3 harg3 arg4 harg4 arg5 harg5 x0 x1 x2 x3 x4 = loads i x0 x1 x2 x3 x4 := by
  unfold readLoads loads
  simp only [readAt_unread]
  rw [View.ld_unit_lit inb_S256x3072_S256x3072_0_0 x0 (by decide)]

/-! ## Tiles of a block -/

/-- The 256 × 4608 array whose tile `k` is `y k`. -/
def untile {α : Type} (y : Fin 36 → S256x128.Idx → α) : S256x4608.Idx → α := fun idx =>
  y ⟨(idx 1).val / 128, by have := idx2_lt1 idx; omega⟩
    (ix2 ⟨(idx 0).val, idx2_lt0 idx⟩ ⟨(idx 1).val % 128, Nat.mod_lt _ (by norm_num)⟩)

/-- At the place of tile `k` it reads `y k`. -/
theorem untile_tile {α : Type} (y : Fin 36 → S256x128.Idx → α) (k : Fin 36) (x : S256x128.Idx) :
    untile y ((tileRect k).emb x) = y k x := by
  have h1 : (((tileRect k).emb x) 1 : ℕ) = 128 * k.val + (x 1).val := Rect.idx_unit_val (s := S256x4608) _ _ _ x 1
  have h0 : (((tileRect k).emb x) 0 : ℕ) = (x 0).val := (Rect.idx_unit_val (s := S256x4608) _ _ _ x 0).trans (Nat.zero_add _)
  have hx := idx2_lt1 x
  unfold untile
  have e1 : (⟨(((tileRect k).emb x) 1 : ℕ) / 128, by rw [h1]; have := k.isLt; omega⟩ : Fin 36) = k :=
    Fin.ext (by show (((tileRect k).emb x) 1 : ℕ) / 128 = k.val; rw [h1]; omega)
  rw [e1]
  congr 1
  funext a
  match a with
  | ⟨0, _⟩ => exact Fin.ext h0
  | ⟨1, _⟩ => exact Fin.ext (by show (((tileRect k).emb x) 1 : ℕ) % 128 = (x 1).val; rw [h1]; omega)

/-- Every place of the block lies in its tile. -/
theorem mem_tile (idx : S256x4608.Idx) :
    idx ∈ (tileRect ⟨(idx 1).val / 128, by have := idx2_lt1 idx; omega⟩).set := by
  rw [Rect.mem_set_unit]
  have h0 := idx2_lt0 idx
  have h1 := idx2_lt1 idx
  intro a
  match a with
  | ⟨0, _⟩ => exact ⟨Nat.zero_le _, by show (idx 0).val < 0 + 256; omega⟩
  | ⟨1, _⟩ =>
    exact ⟨by show 128 * ((idx 1).val / 128) ≤ (idx 1).val; omega, by show (idx 1).val < 128 * ((idx 1).val / 128) + 128; omega⟩

/-! ## The scratch -/

variable (L : Loads F)

/-- A store of a tile of `y` is of the tile's values. -/
theorem mem_yPieces (n : ℕ) (h : n ≤ 36) (p : View.Piece (Elt F) S256x4608 .f32) :
    p ∈ Loads.yPieces L n h ↔ ∃ k : Fin 36, k.val < n ∧ p = ⟨tileRect k, L.y k⟩ := by
  induction n with
  | zero => simp [Loads.yPieces]
  | succ n ih =>
    rw [Loads.yPieces, List.mem_cons, ih (by omega), shapeCast_self]
    constructor
    · rintro (rfl | ⟨k, hk, rfl⟩)
      · exact ⟨⟨n, h⟩, Nat.lt_succ_self n, rfl⟩
      · exact ⟨k, by omega, rfl⟩
    · rintro ⟨k, hk, rfl⟩
      rcases Nat.lt_succ_iff_lt_or_eq.mp hk with hk | hk
      · exact .inr ⟨k, hk, rfl⟩
      · left; obtain rfl : k = ⟨n, h⟩ := Fin.ext hk; rfl

/-- What is read of the scratch at tile `k` is `y`'s tile. -/
theorem scratch_read (v : View sig .tc .vmem S256x4608 .f32) (k : Fin 36) :
    v.readCov (Loads.yPieces L 36 le_rfl) (tileRect k).toLoadRect = L.y k := by
  rw [View.readCov_eq_canon']
  funext x
  rw [View.canon_apply_of_pieces (untile L.y) _ ?_ _ ⟨⟨tileRect k, L.y k⟩, (mem_yPieces L 36 le_rfl _).mpr ⟨k, k.isLt, rfl⟩, ?_⟩]
  · exact untile_tile L.y k x
  · intro p hp z
    obtain ⟨k', -, rfl⟩ := (mem_yPieces L 36 le_rfl p).mp hp
    exact (untile_tile L.y k' z).symm
  · exact (tileRect k).toLoadRect.idx_mem x

/-! ## The codes -/

/-- A store of a tile of codes. -/
theorem mem_codePieces (inv : FVec F S256x1 .f32) (y : Fin 36 → Vec F S256x128 .f32) (n : ℕ) (h : n ≤ 36)
    (p : View.Piece (Elt F) S256x4608 .fp8e4m3) :
    p ∈ codePieces inv y n h ↔ ∃ k : Fin 36, k.val < n ∧ p = ⟨tileRect k, codes inv (y k)⟩ := by
  induction n with
  | zero => simp [codePieces]
  | succ n ih =>
    rw [codePieces, List.mem_cons, ih (by omega)]
    constructor
    · rintro (rfl | ⟨k, hk, rfl⟩)
      · exact ⟨⟨n, h⟩, Nat.lt_succ_self n, rfl⟩
      · exact ⟨k, by omega, rfl⟩
    · rintro ⟨k, hk, rfl⟩
      rcases Nat.lt_succ_iff_lt_or_eq.mp hk with hk | hk
      · exact .inr ⟨k, hk, rfl⟩
      · left; obtain rfl : k = ⟨n, h⟩ := Fin.ext hk; rfl

/-- The codes of the whole block. -/
def Loads.codeBlock : Vec F S256x4608 .fp8e4m3 := untile fun k => codes L.inv (L.y k)

/-- What the stores of the codes leave in the code window, whatever it held, is the block's codes. -/
theorem code_read (v : View sig .tc .vmem S256x4608 .fp8e4m3) (w : View sig .tc .vmem S256x4608 .f32) (f : v.ty.Contents (Elt F)) :
    v.read (Elt F) (v.writes (Elt F) f
      (codePieces L.inv (fun k => w.readCov (Loads.yPieces L 36 le_rfl) (tileRect k).toLoadRect) 36 le_rfl)) = L.codeBlock := by
  simp only [scratch_read]
  have hc : ∀ idx : S256x4608.Idx, ∃ p ∈ codePieces L.inv L.y 36 le_rfl, idx ∈ p.1.set := fun idx =>
    ⟨_, (mem_codePieces L.inv L.y 36 le_rfl _).mpr ⟨_, Fin.isLt _, rfl⟩, mem_tile idx⟩
  rw [View.read_writes_eq_canon v f _ hc]
  funext idx
  refine View.canon_apply_of_pieces L.codeBlock _ (fun p hp z => ?_) idx (hc idx)
  obtain ⟨k', -, rfl⟩ := (mem_codePieces L.inv L.y 36 le_rfl p).mp hp
  exact (untile_tile (fun k => codes L.inv (L.y k)) k' z).symm

/-! ## The scales -/

/-- What the store of the scales leaves in the scale window: rows `2i` and `2i + 1` of the step's scales, the rest as
    it was. -/
def Loads.scaleOver (i : grid0.Coords) (Y : Vec F S16x128 .f32) : Vec F S16x128 .f32 := fun idx =>
  if h : 2 * (i 0).val ≤ (idx 0).val ∧ (idx 0).val < 2 * (i 0).val + 2 then
    L.scale (ix2 ⟨(idx 0).val - 2 * (i 0).val, by omega⟩ ⟨(idx 1).val, idx2_lt1 idx⟩)
  else Y idx

theorem scale_read (i : grid0.Coords) (M : Memref sig .tc .vmem S16x128 .f32) (h : M.IsWhole) (Y : Vec F S16x128 .f32) :
    M.view.read (Elt F) (M.view.writes (Elt F) (h.unread Y)
      [⟨Rect.unit (k0_off1 i) S2x128.size (k0_off1_inb i), L.scale⟩]) = L.scaleOver i Y := by
  funext idx
  have o0 : k0_off1 i 0 = 2 * (i 0).val := congrFun (k0_off1_eq i) 0
  have o1 : k0_off1 i 1 = 0 := congrFun (k0_off1_eq i) 1
  unfold Loads.scaleOver
  split
  · rename_i hi
    set x : S2x128.Idx := ix2 ⟨(idx 0).val - 2 * (i 0).val, by omega⟩ ⟨(idx 1).val, idx2_lt1 idx⟩ with hx
    have e : (Rect.unit (s := S16x128) (k0_off1 i) S2x128.size (k0_off1_inb i)).emb x = idx := by
      funext a
      apply Fin.ext
      match a with
      | ⟨0, _⟩ =>
        refine (Rect.idx_unit_val (s := S16x128) _ _ _ x 0).trans ?_
        rw [o0]; show 2 * (i 0).val + ((idx 0).val - 2 * (i 0).val) = (idx 0).val; omega
      | ⟨1, _⟩ =>
        refine (Rect.idx_unit_val (s := S16x128) _ _ _ x 1).trans ?_
        rw [o1]; exact Nat.zero_add _
    have hr := View.read_writes_cons_emb (v := M.view) (f := h.unread Y)
      (Rect.unit (s := S16x128) (k0_off1 i) S2x128.size (k0_off1_inb i)) L.scale [] x
    rw [e] at hr
    exact hr
  · rename_i hi
    have hm : idx ∉ (Rect.unit (s := S16x128) (k0_off1 i) S2x128.size (k0_off1_inb i)).set := by
      rw [Rect.mem_set_unit]
      intro hm
      have h0 := hm 0
      rw [o0] at h0
      exact hi h0
    have e := View.read_writes_apply_of_forall_not_mem (v := M.view) (f := h.unread Y) idx
      [⟨Rect.unit (s := S16x128) (k0_off1 i) S2x128.size (k0_off1_inb i), L.scale⟩]
      (fun p hp => by obtain rfl := List.mem_singleton.mp hp; exact hm)
    exact e.trans (congrFun (h.read_unread Y) idx)

end Cert.KernelIdeal.Hand

end
-- ==== Proof.Run.lean ====
/- The kernel's run: what each step leaves in its windows, and the two arrays at the end. The scale window is one block
   for all steps: each step overwrites two of its rows and keeps the others, and it is written back after the last. -/
module

public import proofs.«01_k».proof.Proof.Readback
public import proofs.«01_k».proof.Proof.Gen.KernelIdeal.Frame
public import Idealize.ShloMosaic.Lib.Pipeline.DatRel
public import Idealize.ShloMosaic.Lib.Pipeline.ArrRel

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel)
open Idealize.ShloMosaic.ValueIdx (idx2_lt0 idx2_lt1)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers of a step -/

/-- Each window's current buffer at a step, and that it is a whole buffer. -/
abbrev ms0 (t : Fin cfg0.N) : Memref sig .tc .vmem S256x3072 .fp8e4m3 := win0_0.stage (cfg0.slots t 0)
abbrev hs0 (t : Fin cfg0.N) : (ms0 t).IsWhole := hstage0_0 ((cfg0.slots t 0).cast nbuf0_0)
abbrev ms1 (t : Fin cfg0.N) : Memref sig .tc .vmem S16x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S3072x4608 .fp8e4m3 := win0_2.stage (cfg0.slots t 2)
abbrev hs2 (t : Fin cfg0.N) : (ms2 t).IsWhole := hstage0_2 ((cfg0.slots t 2).cast nbuf0_2)
abbrev ms3 (t : Fin cfg0.N) : Memref sig .tc .vmem S36x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S36x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S16x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S256x4608 .fp8e4m3 := win0_6.stage (cfg0.slots t 6)
abbrev hs6 (t : Fin cfg0.N) : (ms6 t).IsWhole := hstage0_6 ((cfg0.slots t 6).cast nbuf0_6)
/-- The scratch. -/
abbrev scratch : Memref sig .tc .vmem S256x4608 .f32 := Memref.whole cc0_scratch0

/-- The invariant between steps: the scratch at some contents, and the generator register at some value. -/
theorem phi_eq (c : Dev nD) :
    (Pipeline.ΦA spec0 c : sProp 𝕄)
      = iprop(iprop((∃ d, owns (c : Thread nD τ) scratch fullShare d)) ∗ (∃ r, prngReg c r)) := by
  unfold Pipeline.ΦA; rw [scopedRest0_eq]; simp only [scratch, owns_whole]; try rfl

/-- The coordinate of step `t` is `t`. -/
theorem coords_val : ∀ t : Fin cfg0.N, ((grid0.coords t) 0).val = t.val :=
  (by decide +kernel : ∀ t : Fin grid0.N, ((grid0.coords t) 0).val = t.val)

/-! ## What the windows hold -/

/-- What step `t` loads. -/
def stepLoads (c : Dev nD) (t : Fin cfg0.N) : Loads F :=
  loads (grid0.coords t) (iblk m c 0 t) (iblk m c 1 t) (iblk m c 2 t) (iblk m c 3 t) (iblk m c 4 t)

/-- The array of the scales: rows `2t` and `2t + 1` are step `t`'s. -/
def scales (c : Dev nD) : Vec F S16x128 .f32 := fun idx =>
  (stepLoads m c ⟨(idx 0).val / 2, by have := idx2_lt0 idx; show (idx 0).val / 2 < grid0.N; rw [N_0]; omega⟩).scale
    (ix2 ⟨(idx 0).val % 2, by omega⟩ ⟨(idx 1).val, idx2_lt1 idx⟩)

/-- The scale window may hold, after step `t`, anything whose rows up to `2t + 1` are the scales. -/
def Scaled (c : Dev nD) (t : Fin cfg0.N) (X : Vec F S16x128 .f32) : Prop :=
  ∀ idx : S16x128.Idx, (idx 0).val < 2 * (t.val + 1) → X idx = scales m c idx

/-- A step's overwriting of its two rows keeps this. -/
theorem scaled_step (c : Dev nD) (t : Fin cfg0.N) (Y : Vec F S16x128 .f32)
    (hY : ∀ idx : S16x128.Idx, (idx 0).val < 2 * t.val → Y idx = scales m c idx) :
    Scaled m c t ((stepLoads m c t).scaleOver (grid0.coords t) Y) := by
  intro idx hi
  unfold Loads.scaleOver
  have ht := coords_val t
  split
  · rename_i h
    unfold scales
    have e : (⟨(idx 0).val / 2, by have := idx2_lt0 idx; show (idx 0).val / 2 < grid0.N; rw [N_0]; omega⟩ : Fin cfg0.N) = t :=
      Fin.ext (by show (idx 0).val / 2 = t.val; omega)
    rw [e]
    congr 1
    funext a
    match a with
    | ⟨0, _⟩ => exact Fin.ext (by show (idx 0).val - 2 * ((grid0.coords t) 0).val = (idx 0).val % 2; omega)
    | ⟨1, _⟩ => rfl
  · rename_i h
    exact hY idx (by omega)

/-! ## The proof data -/

/-- After step `t` an input's buffer holds its block, and the code window the block's codes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => scales m c
    | ⟨6, _⟩ => (stepLoads m c t).codeBlock
  Φ _ := Pipeline.ΦA spec0 c
  q _ := fullShare
  owed _ := 0

/-- The scale window alone is held to a predicate, -/
def marked : Fin cfg0.W → Bool := fun w => match w with
  | ⟨0, _⟩ => false | ⟨1, _⟩ => false | ⟨2, _⟩ => false | ⟨3, _⟩ => false | ⟨4, _⟩ => false | ⟨5, _⟩ => true | ⟨6, _⟩ => false
/-- which is `Scaled`. -/
def held (c : Dev nD) : (w : Fin cfg0.W) → Fin cfg0.N → ((cfg0.win w).block.Idx → Elt F (cfg0.win w).elt) → Prop :=
  fun w => match w with
  | ⟨0, _⟩ => fun _ _ => True | ⟨1, _⟩ => fun _ _ => True | ⟨2, _⟩ => fun _ _ => True | ⟨3, _⟩ => fun _ _ => True
  | ⟨4, _⟩ => fun _ _ => True | ⟨5, _⟩ => fun t X => Scaled m c t X | ⟨6, _⟩ => fun _ _ => True

/-- The proof data with the scale window held to its predicate. -/
abbrev rdat (c : Dev nD) : RDat τ (Elt F) Unit ℕ (UR sig nD τ) ℕ cfg0 c := (dats m 0 c).toRRel marked (held m c)

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_6 (c : Dev nD) (t : Fin cfg0.N) : (dats m 0 c).after 6 t = (stepLoads m c t).codeBlock := by dsimp only [dats]

/-- An input's buffer holds its block before each step. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- What step `t` finds in the scale window: the rows of the steps before it are the scales. -/
theorem finds_scaled (c : Dev nD) (t : Fin cfg0.N) (Y : Vec F S16x128 .f32) (h : (rdat m c).Finds 5 t Y) :
    ∀ idx : S16x128.Idx, (idx 0).val < 2 * t.val → Y idx = scales m c idx := by
  intro idx hi
  have ht : t.val ≠ 0 := by omega
  have hf : (cfg0.win 5).fetch t = false := rfl
  have hlt : t.val < 8 := by have := t.isLt; have e : cfg0.N = 8 := N_0; omega
  rcases ((rdat m c).finds_of_pos hf ht Y).mp h with h | h
  · have := (flush0_5 _).mp h
    simp only at this
    omega
  · have := (dats m 0 c).toRRel_leaves (Rl := held m c) (fgt := marked) (w := 5) rfl h
    have hs : Scaled m c ⟨t.val - 1, Nat.lt_of_le_of_lt (Nat.sub_le _ _) t.isLt⟩ Y := this
    exact hs idx (by show (idx 0).val < 2 * (t.val - 1 + 1); omega)

/-! ## The body's triple -/

/-- What the body is given at step `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ Y, ⌜(rdat m c).Finds 5 t Y⌝ ∗ owns (c : Thread nD τ) (ms5 t) fullShare Y)
    ∗ (∃ d, owns (c : Thread nD τ) (ms6 t) fullShare ((dats m 0 c).before 6 t d)))

/-- and what it gives back. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ (∃ X, ⌜held m c 5 t X⌝ ∗ owns (c : Thread nD τ) (ms5 t) fullShare X)
    ∗ owns (c : Thread nD τ) (ms6 t) fullShare ((dats m 0 c).after 6 t))

set_option maxHeartbeats 800000 in
/-- The body's triple at step `t`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_6]
  rw [show (dats m 0 c).Φ t.castSucc = Pipeline.ΦA spec0 c from rfl, phi_eq]
  iintro ⟨⟨HS0, Hg⟩, Ho, ⟨%d0, H0⟩, ⟨%d1, H1⟩, ⟨%d2, H2⟩, ⟨%d3, H3⟩, ⟨%d4, H4⟩, ⟨%Y, %hY, H5⟩, ⟨%d6, H6⟩⟩
  have hread := readLoads_eq (grid0.coords t) (ms0 t) (hs0 t) (ms1 t) (hs1 t) (ms2 t) (hs2 t) (ms3 t) (hs3 t) (ms4 t) (hs4 t)
    (iblk m c 0 t) (iblk m c 1 t) (iblk m c 2 t) (iblk m c 3 t) (iblk m c 4 t)
  have hscale := scale_pieces c (grid0.coords t) (ms0 t) (hs0 t) (ms1 t) (hs1 t) (ms2 t) (hs2 t) (ms3 t) (hs3 t) (ms4 t) (hs4 t)
    (ms5 t) (hs5 t) (ms6 t) (hs6 t) scratch (Memref.isWhole_whole _) (iblk m c 0 t) (iblk m c 1 t) (iblk m c 2 t) (iblk m c 3 t) (iblk m c 4 t) Y
  have hcode := code_pieces c (grid0.coords t) (ms0 t) (hs0 t) (ms1 t) (hs1 t) (ms2 t) (hs2 t) (ms3 t) (hs3 t) (ms4 t) (hs4 t)
    (ms5 t) (hs5 t) (ms6 t) (hs6 t) scratch (Memref.isWhole_whole _) (iblk m c 0 t) (iblk m c 1 t) (iblk m c 2 t) (iblk m c 3 t) (iblk m c 4 t) Y
  rw [hread] at hscale hcode
  iapply ((bodyRun c (grid0.coords t) (ms0 t) (hs0 t) (ms1 t) (hs1 t) (ms2 t) (hs2 t) (ms3 t) (hs3 t) (ms4 t) (hs4 t)
    (ms5 t) (hs5 t) (ms6 t) (hs6 t) scratch (Memref.isWhole_whole _) (iblk m c 0 t) (iblk m c 1 t) (iblk m c 2 t) (iblk m c 3 t) (iblk m c 4 t) Y).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  iintro ⟨H0, H1, H2, H3, H4, H5, ⟨%e6, H6⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · iexists ((stepLoads m c t).scaleOver (grid0.coords t) Y); isplitr
    · ipureintro; exact scaled_step m c t Y (finds_scaled m c t Y hY)
    unfold owns; iexists _; isplitr
    swap; · iexact H5
    ipureintro
    exact (congrArg (fun l => (ms5 t).view.read (Elt F) ((ms5 t).view.writes (Elt F) ((hs5 t).unread Y) l)) hscale).trans
      (scale_read (stepLoads m c t) (grid0.coords t) (ms5 t) (hs5 t) Y)
  unfold owns; iexists _; isplitr
  swap; · iexact H6
  ipureintro
  exact (congrArg (fun l => (ms6 t).view.read (Elt F) ((ms6 t).view.writes (Elt F) e6 l)) hcode).trans
    (code_read (stepLoads m c t) (ms6 t).view _ _)

/-- The body table's row at step `t`. -/
theorem defs₀_row (t : Fin cfg0.N) :
    defs₀ (F := F) .tc cfg0.body (cfg0.bodyArgs t (cfg0.slots t)) = bodyAt0 t := by
  unfold defs₀; rw [Defs.onTc_tc]

/-- The body obligation. -/
theorem body_obligation (c : Dev nD) :
    BodyObligationRel (dats (F := F) m 0 c) (defs₀ (F := F)) Variants.none () Set.univ marked (held m c) := fun t => by
  rw [bigSep_W0, bigSep_W0, defs₀_row]
  exact triple_restated (sound_body m c t) rfl .rfl fun _ => .rfl

end Cert.KernelIdeal.Hand

end
-- ==== Proof.Launch.lean ====
/- The kernel's launch: it ends, the arguments unchanged, the first result the array of the scales and the second the
   array of the codes. -/
module

public import proofs.«01_k».proof.Proof.Run

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.Sem
open Idealize.ShloMosaic.Pipeline (Dat RDat)
open Idealize.ShloMosaic.ValueIdx (idx2_lt0 idx2_lt1)

variable {F : FTy → Type} [FloatOps F]

variable (m : (ℓ : Loc nD τ sig) → Buf (Elt F) ℓ) (ρ : Dev nD → PrngReg)

/-! ## The launch -/

set_option backward.isDefEq.respectTransparency.types false in
/-- Every execution ends, each array at contents the proof data allow, and every counter at zero. -/
theorem run_quiescent : θ_run defs (onTc (τ := τ) (main (F := F))) (s₀ m ρ)
    (fun r => (RDat.FramePost cfg0 (rdat m) (V m)) r ∧ r.2.sem = fun _ => 0) :=
  RDat.θ_run_frame (Q' := _) cfgs (0 : Fin 1) launch0 defs₀ Variants.none (rdat m) m ρ main
    (hbody := fun c => (body_obligation m c).toRRel) (hshare := fun c => (rdat m c).share_full fun _ => rfl)
    (howed := fun _ _ => rfl) (V := V m) (hmain := hmain m Variants.none) (hA := A_eq m) (hΦ := fun _ _ => rfl)

/-! ## The arrays at the end -/

/-- The array of the codes: row `r` is row `r % 256` of step `r / 256`'s block. -/
def codesArr (c : Dev nD) : Vec F S2048x4608 .fp8e4m3 := fun idx =>
  (stepLoads m c ⟨(idx 0).val / 256, by have := idx2_lt0 idx; show (idx 0).val / 256 < grid0.N; rw [N_0]; omega⟩).codeBlock
    (ix2 ⟨(idx 0).val % 256, by omega⟩ ⟨(idx 1).val, idx2_lt1 idx⟩)

/-- Step `t` writes back block `t` of the rows of the codes. -/
theorem index6 : ∀ t : Fin cfg0.N, win0_6.index t 0 = t.val ∧ win0_6.index t 1 = 0 :=
  (by decide +kernel : ∀ t : Fin grid0.N, win0_6.index t 0 = t.val ∧ win0_6.index t 1 = 0)

/-- The last step. -/
abbrev lastStep : Fin cfg0.N := ⟨7, by show 7 < grid0.N; rw [N_0]; omega⟩

variable {m}
variable {r : PUnit × MemSt nD τ sig (Elt F)} (h : RDat.FramePost cfg0 (rdat m) (V m) r) (c : Dev nD)
include h

/-- The first result is the array of the scales. -/
theorem end_scales : r.2.mem ((c : Thread nD τ).loc main_v4_0) = scales m c := by
  obtain ⟨after, hL, hA⟩ := RDat.FramePost.exists_exact h c
  refine (hA 5).trans ?_
  have hw : (cfg0.win 5).WholeAt lastStep := by decide +kernel
  refine Dat.arrAt_eq_of_after_last ((rdat m c).withAfter after) 5 lastStep hw (scales m c) (fun j => ?_)
  have hs : Scaled m c lastStep (after 5 lastStep) :=
    (dats m 0 c).toRRel_leaves (Rl := held m c) (fgt := marked) (w := 5) rfl (hL 5 lastStep hw.1)
  exact hs j (by have := idx2_lt0 (n0 := 16) (n1 := 128) j; show (j 0).val < 2 * (7 + 1); omega)

/-- The second result is the array of the codes. -/
theorem end_codes : r.2.mem ((c : Thread nD τ).loc main_v4_1) = codesArr m c := by
  obtain ⟨after, hL, hA⟩ := RDat.FramePost.exists_exact h c
  refine (hA 6).trans ?_
  have hk : (cfg0.win 6).Covers := by decide +kernel
  refine Dat.arrAt_eq_of_covers ((rdat m c).withAfter after) 6 (codesArr m c) hk (fun t hf y => ?_)
  obtain ⟨Y, -, hY⟩ := hL 6 t hf
  rw [(dats m 0 c).toRRel_after_of_eq_false (fgt := marked) (Rl := held m c) (w := 6) rfl] at hY
  have hX : after 6 t = (stepLoads m c t).codeBlock := hY.trans (after_6 m c t)
  rw [RDat.withAfter_after, hX]
  have hi := index6 t
  show (stepLoads m c t).codeBlock y = codesArr m c ((win0_6.blk t).view.emb y)
  have e0 : (((win0_6.blk t).view.emb y) 0 : ℕ) = 256 * t.val + (y 0).val := by
    blk_simp
    rw [hi.1]; omega
  have e1 : (((win0_6.blk t).view.emb y) 1 : ℕ) = (y 1).val := by
    blk_simp
    rw [hi.2]; omega
  have hy0 : (y 0).val < 256 := (y 0).isLt
  have et : t = ⟨(((win0_6.blk t).view.emb y) 0 : ℕ) / 256, by rw [e0, Nat.mul_add_div (by norm_num), Nat.div_eq_of_lt hy0]; exact t.isLt⟩ :=
    Fin.ext (by show t.val = _ / 256; rw [e0]; omega)
  have ey : y = ix2 ⟨(((win0_6.blk t).view.emb y) 0 : ℕ) % 256, by omega⟩
      ⟨(((win0_6.blk t).view.emb y) 1 : ℕ), by rw [e1]; exact (y 1).isLt⟩ := by
    funext a
    match a with
    | ⟨0, _⟩ => exact Fin.ext (by show (y 0).val = _ % 256; rw [e0]; omega)
    | ⟨1, _⟩ => exact Fin.ext e1.symm
  exact congrArg₂ (fun t y => (stepLoads m c t).codeBlock y) et ey

theorem kept_arg0 : r.2.mem ((c : Thread nD τ).loc main_arg0) = m ((c : Thread nD τ).loc main_arg0) :=
  ((h c).2 main_arg0 (Pipeline.mem_restRefs_of main_arg0 (by decide) (by decide))).trans (V_main_arg0 m c)
theorem kept_arg1 : r.2.mem ((c : Thread nD τ).loc main_arg1) = m ((c : Thread nD τ).loc main_arg1) :=
  ((h c).2 main_arg1 (Pipeline.mem_restRefs_of main_arg1 (by decide) (by decide))).trans (V_main_arg1 m c)
theorem kept_arg2 : r.2.mem ((c : Thread nD τ).loc main_arg2) = m ((c : Thread nD τ).loc main_arg2) :=
  (RDat.FramePost.arr_in h c 2 rfl).trans ((A_eq m c 2).trans (V_main_arg2 m c))
theorem kept_arg3 : r.2.mem ((c : Thread nD τ).loc main_arg3) = m ((c : Thread nD τ).loc main_arg3) :=
  ((h c).2 main_arg3 (Pipeline.mem_restRefs_of main_arg3 (by decide) (by decide))).trans (V_main_arg3 m c)
theorem kept_arg4 : r.2.mem ((c : Thread nD τ).loc main_arg4) = m ((c : Thread nD τ).loc main_arg4) :=
  ((h c).2 main_arg4 (Pipeline.mem_restRefs_of main_arg4 (by decide) (by decide))).trans (V_main_arg4 m c)

omit h c in
/-- The run with both results named. -/
theorem run_values : θ_run defs (onTc (τ := τ) (main (F := F))) ⟨m, fun _ => 0, ρ⟩ (fun r => ∀ c : Dev nD,
      r.2.mem ((c : Thread nD τ).loc main_v4_0) = scales m c
      ∧ r.2.mem ((c : Thread nD τ).loc main_v4_1) = codesArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨end_scales h.1 c, end_codes h.1 c, kept_arg0 h.1 c, kept_arg1 h.1 c, kept_arg2 h.1 c,
    kept_arg3 h.1 c, kept_arg4 h.1 c⟩) (run_quiescent m ρ)

omit h c in
/-- The kernel's frame: every execution ends, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨kept_arg0 h.1 c, kept_arg1 h.1 c, kept_arg2 h.1 c, kept_arg3 h.1 c, kept_arg4 h.1 c⟩, h.2⟩)
    (run_quiescent m ρ)

end Cert.KernelIdeal.Hand

end
-- ==== Proof.Exponent.lean ====
/- The exponent of a scale and the power of two it stands for, of one number: the search for the exponent field bit by bit
   finds the largest power reached, and the count of the powers reached names the same one. -/
module

public import Idealize.ShloMosaic.PureOps.Ideal

@[expose] public section

noncomputable section

namespace Cert.Math

open Idealize.ShloMosaic

/-! ## The float of an exponent field -/

/-- The float whose exponent field is `n` and whose significand is 1: zero at 0, infinite at 255, else `2 ^ (n - 127)`. -/
def reach (n : ℕ) : EReal := if n = 0 then 0 else if n = 255 then ⊤ else (((2 : ℝ) ^ ((n : ℤ) - 127) : ℝ) : EReal)

theorem field_bits : ∀ n : Fin 256, ((BitVec.ofNat 32 n.val <<< 23#32).extractLsb' 23 8).toNat = n.val
    ∧ ((BitVec.ofNat 32 n.val <<< 23#32).extractLsb' 0 23).toNat = 0
    ∧ ((BitVec.ofNat 32 n.val <<< 23#32).extractLsb' (8 + 23) 1 == 1#1) = false := by decide +kernel

theorem field_power (n : ℕ) :
    (1 : ℝ) * ((2 ^ 23 + 0 : ℕ) : ℝ) * (2 : ℝ) ^ ((n : ℤ) - (2 ^ (8 - 1) - 1) - (23 : ℕ)) = (2 : ℝ) ^ ((n : ℤ) - 127) := by
  have h : (1 : ℝ) * ((2 ^ 23 + 0 : ℕ) : ℝ) = (2 : ℝ) ^ (23 : ℤ) := by norm_num
  have e : ((n : ℤ) - 127) = (23 : ℤ) + ((n : ℤ) - (2 ^ (8 - 1) - 1) - (23 : ℕ)) := by norm_num
  rw [h, e, zpow_add₀ (by norm_num)]

theorem ofBits_field (n : ℕ) (h : n < 256) : Ideal.ofBits .f32 (BitVec.ofNat 32 n <<< 23#32) = reach n := by
  obtain ⟨h1, h2, h3⟩ := field_bits ⟨n, h⟩
  simp only at h1 h2 h3
  show Ideal.ieee 8 23 (w := 32) (BitVec.ofNat 32 n <<< 23#32) = reach n
  unfold Ideal.ieee reach
  simp only [h1, h2, h3, Bool.false_eq_true, if_false]
  rcases Nat.eq_zero_or_pos n with rfl | hn
  · simp
  by_cases h5 : n = 255
  · subst h5; simp
  · rw [if_neg (by omega), if_neg (by omega), if_neg (by omega), if_neg h5, field_power]

/-- These grow with the field. -/
theorem reach_mono {a b : ℕ} (h : a ≤ b) (hb : b ≤ 255) : reach a ≤ reach b := by
  unfold reach
  split_ifs with h1 h2 h3 h4 h5 h6 <;> first | exact le_rfl | exact le_top | skip
  · exact EReal.coe_nonneg.mpr (by positivity)
  · omega
  · omega
  · omega
  · exact EReal.coe_le_coe_iff.mpr (zpow_le_zpow_right₀ (by norm_num) (by omega))

/-! ## The search -/

/-- One trial: `bit` is added to the field if `r` is at least the float of the larger field. -/
def trial1 (r : EReal) (bit field : BitVec 32) : BitVec 32 :=
  if Ideal.cmp .oge r (Ideal.ofBits .f32 ((field + bit) <<< 23#32)) = 1 then field + bit else field

/-- The field found bit by bit. -/
def field1 (r : EReal) : BitVec 32 :=
  trial1 r 1#32 (trial1 r 2#32 (trial1 r 4#32 (trial1 r 8#32 (trial1 r 16#32 (trial1 r 32#32 (trial1 r 64#32
    (trial1 r 128#32 0#32)))))))

/-- What the search knows before the trial of the bit of weight `w / 2`: the field is one of the `w` from `f` on. -/
def Within (r : EReal) (w f : ℕ) : Prop := f + w ≤ 256 ∧ reach f ≤ r ∧ ∀ n, f + w ≤ n → n ≤ 255 → r < reach n

theorem within_trial {r : EReal} {w f : ℕ} (hw : 0 < w) (h : Within r (w + w) f) :
    ∃ f', trial1 r (BitVec.ofNat 32 w) (BitVec.ofNat 32 f) = BitVec.ofNat 32 f' ∧ Within r w f' := by
  obtain ⟨h1, h2, h3⟩ := h
  unfold trial1
  rw [← BitVec.ofNat_add, ofBits_field _ (by omega)]
  by_cases hr : reach (f + w) ≤ r
  · refine ⟨f + w, ?_, by omega, hr, fun n hn hn' => h3 n (by omega) hn'⟩
    rw [if_pos (by simp [Ideal.cmp, hr])]
  · refine ⟨f, ?_, by omega, h2, fun n hn hn' => lt_of_lt_of_le (not_le.mp hr) (reach_mono hn hn')⟩
    rw [if_neg (by simp [Ideal.cmp, hr])]

/-- The search finds the largest field whose float `r` reaches. -/
theorem field1_spec {r : EReal} (hr : 0 ≤ r) :
    ∃ t, t ≤ 255 ∧ field1 r = BitVec.ofNat 32 t ∧ ∀ n, n ≤ 255 → (reach n ≤ r ↔ n ≤ t) := by
  have h0 : Within r (128 + 128) 0 := ⟨by norm_num, by simpa [reach] using hr, fun n hn hn' => by omega⟩
  obtain ⟨f1, e1, h1⟩ := within_trial (by norm_num) h0
  obtain ⟨f2, e2, h2⟩ := within_trial (w := 64) (by norm_num) h1
  obtain ⟨f3, e3, h3⟩ := within_trial (w := 32) (by norm_num) h2
  obtain ⟨f4, e4, h4⟩ := within_trial (w := 16) (by norm_num) h3
  obtain ⟨f5, e5, h5⟩ := within_trial (w := 8) (by norm_num) h4
  obtain ⟨f6, e6, h6⟩ := within_trial (w := 4) (by norm_num) h5
  obtain ⟨f7, e7, h7⟩ := within_trial (w := 2) (by norm_num) h6
  obtain ⟨t, e8, h8⟩ := within_trial (w := 1) (by norm_num) h7
  refine ⟨t, by have := h8.1; omega, ?_, fun n hn => ⟨fun h => ?_, fun h => (reach_mono h (by have := h8.1; omega)).trans h8.2.1⟩⟩
  · unfold field1
    rw [e1, e2, e3, e4, e5, e6, e7, e8]
  · by_contra hc
    exact absurd h (not_le.mpr (h8.2.2 n (by omega) hn))

/-! ## The exponent -/

/-- The exponent of the scale of a row whose largest magnitude is `a`: what the search makes of `r`, `a` scaled down. -/
def exponent1 (a r : EReal) : BitVec 32 :=
  if a = 0 then 0#32 else if field1 r = 0#32 ∨ field1 r = 255#32 then 0#32 else field1 r - 126#32

/-- The same by the number of the powers `2 ^ -126 .. 2 ^ 127` that `r` reaches. -/
def exponentOf (a r : EReal) : BitVec 32 :=
  let n := BitVec.ofNat 32 (Finset.univ.filter fun k : Fin 254 => (((2 : ℝ) ^ ((k.val : ℤ) - 126) : ℝ) : EReal) ≤ r).card
  if a = 0 then 0#32 else if n = 0#32 ∨ r = ⊤ then 0#32 else n - 126#32

theorem ofNat_eq_iff {a b : ℕ} (ha : a < 256) (hb : b < 256) : BitVec.ofNat 32 a = BitVec.ofNat 32 b ↔ a = b := by
  constructor
  · intro h
    have := congrArg BitVec.toNat h
    simp only [BitVec.toNat_ofNat] at this
    omega
  · rintro rfl; rfl

theorem card_le (n : ℕ) (h : n ≤ 254) : (Finset.univ.filter fun k : Fin 254 => k.val + 1 ≤ n).card = n := by
  rw [← Fintype.card_subtype]
  have e : {k : Fin 254 // k.val + 1 ≤ n} ≃ Fin n :=
    ⟨fun k => ⟨k.1.val, by have := k.2; omega⟩, fun k => ⟨⟨k.val, by omega⟩, by show k.val + 1 ≤ n; omega⟩, fun _ => rfl, fun _ => rfl⟩
  rw [Fintype.card_congr e, Fintype.card_fin]

/-- Both name one exponent. -/
theorem exponent1_eq {a r : EReal} (hr : 0 ≤ r) : exponent1 a r = exponentOf a r := by
  obtain ⟨t, ht, hf, hs⟩ := field1_spec hr
  have hset : (Finset.univ.filter fun k : Fin 254 => (((2 : ℝ) ^ ((k.val : ℤ) - 126) : ℝ) : EReal) ≤ r)
      = Finset.univ.filter fun k : Fin 254 => k.val + 1 ≤ min t 254 := by
    ext k
    simp only [Finset.mem_filter, Finset.mem_univ, true_and]
    have hk := k.isLt
    have e : (((2 : ℝ) ^ ((k.val : ℤ) - 126) : ℝ) : EReal) = reach (k.val + 1) := by
      unfold reach
      rw [if_neg (by omega), if_neg (by omega)]
      congr 2
      push_cast
      ring
    rw [e, hs _ (by omega)]
    omega
  have htop : r = ⊤ ↔ t = 255 := by
    have h255 := hs 255 le_rfl
    rw [show reach 255 = ⊤ by simp [reach], top_le_iff] at h255
    rw [h255]; omega
  unfold exponent1 exponentOf
  rw [hset, card_le _ (by omega), hf]
  simp only [htop]
  have e0 : BitVec.ofNat 32 t = 0#32 ↔ t = 0 := ofNat_eq_iff (by omega) (by norm_num)
  have e5 : BitVec.ofNat 32 t = 255#32 ↔ t = 255 := ofNat_eq_iff (by omega) (by norm_num)
  have em : BitVec.ofNat 32 (min t 254) = 0#32 ↔ min t 254 = 0 := ofNat_eq_iff (by omega) (by norm_num)
  simp only [e0, e5, em]
  by_cases h0 : t = 0
  · simp [h0]
  by_cases h5 : t = 255
  · simp [h5]
  · rw [if_neg (by omega : ¬(t = 0 ∨ t = 255)), if_neg (by omega : ¬(min t 254 = 0 ∨ t = 255)), show min t 254 = t by omega]

/-! ## The power of two -/

/-- The float whose exponent field is `n + 127`, held to a field. -/
def ldexp1 (n : BitVec 32) : EReal :=
  Ideal.ofBits .f32 (IntOp.minsi 255#32 (IntOp.maxsi 0#32 (n + 127#32)) <<< 23#32)

/-- `2 ^ n`: infinite above 127, zero below -126. -/
def powerOfTwo (n : BitVec 32) : EReal :=
  if n.toInt > 127 then ⊤ else if n.toInt < -126 then 0 else (((2 : ℝ) ^ n.toInt : ℝ) : EReal)

/-- An integer between -128 and 128. -/
def Small (n : BitVec 32) : Prop := ∃ u : Fin 257, n = BitVec.ofNat 32 u.val - 128#32

theorem small_bits : ∀ u : Fin 257, IntOp.minsi 255#32 (IntOp.maxsi 0#32 (BitVec.ofNat 32 u.val - 128#32 + 127#32)) = BitVec.ofNat 32 (u.val - 1)
    ∧ (BitVec.ofNat 32 u.val - 128#32).toInt = (u.val : ℤ) - 128
    ∧ 0#32 - (BitVec.ofNat 32 u.val - 128#32) = BitVec.ofNat 32 (256 - u.val) - 128#32 := by decide +kernel

theorem Small.neg {n : BitVec 32} (h : Small n) : Small (0#32 - n) := by
  obtain ⟨u, rfl⟩ := h
  exact ⟨⟨256 - u.val, by omega⟩, (small_bits u).2.2⟩

theorem small_sub : ∀ t : Fin 255, BitVec.ofNat 32 t.val - 126#32 = BitVec.ofNat 32 (t.val + 2) - 128#32 := by decide +kernel

theorem small_exponent1 {a r : EReal} (hr : 0 ≤ r) : Small (exponent1 a r) := by
  obtain ⟨t, ht, hf, -⟩ := field1_spec hr
  have h0 : Small 0#32 := ⟨⟨128, by norm_num⟩, rfl⟩
  unfold exponent1
  rw [hf]
  split_ifs with h1 h2
  · exact h0
  · exact h0
  · have h5 : t ≠ 255 := fun h => h2 (.inr (by rw [h]))
    exact ⟨⟨t + 2, by omega⟩, small_sub ⟨t, by omega⟩⟩

/-- On these integers both are one power of two. -/
theorem ldexp1_eq {n : BitVec 32} (h : Small n) : ldexp1 n = powerOfTwo n := by
  obtain ⟨u, rfl⟩ := h
  obtain ⟨h1, h2, -⟩ := small_bits u
  unfold ldexp1 powerOfTwo
  have hu := u.isLt
  rw [h1, h2, ofBits_field _ (by omega)]
  unfold reach
  by_cases ha : u.val ≤ 1
  · rw [if_pos (by omega), if_neg (by omega), if_pos (by omega)]
  by_cases hb : u.val = 256
  · rw [if_neg (by omega), if_pos (by omega), if_pos (by omega)]
  · rw [if_neg (by omega), if_neg (by omega), if_neg (by omega), if_neg (by omega)]
    congr 2
    omega

end Cert.Math

end
-- ==== Proof.Spec.lean ====
/- The mathematics both programs compute, on plain functions: the scaled linear map, a row's largest magnitude, its scale,
   and the codes. -/
module

public import proofs.«01_k».proof.Proof.Exponent

@[expose] public section

noncomputable section

namespace Cert.Math

open Idealize.ShloMosaic

/-- One element of `y`: the exact sum of products, times the token's scale, times the column's scale, plus the bias. -/
def linear {n : ℕ} (x w : Fin n → EReal) (xs ws b : EReal) : EReal := (∑ k, x k * w k) * xs * ws + b

/-- The largest magnitude of a row. -/
def largest {n : ℕ} (y : Fin n → EReal) : EReal := Finset.univ.fold max ⊥ fun c => max (y c) (-y c)

/-- The exponent of the scale of a row whose largest magnitude is `a`, from `a` times the float next to `1 / 448`. -/
def rowExponent (a : EReal) : BitVec 32 := exponent1 a (a * Ideal.ofBits .f32 0x3B124925#32)

/-- The scale of that row. -/
def rowScale (a : EReal) : EReal := ldexp1 (rowExponent a)

/-- The code of the element `y` of that row: `y` times the inverse of the scale, held to ±448. -/
def rowCode (a y : EReal) : EReal :=
  min (Ideal.ofBits .f32 0x43E00000#32) (max (Ideal.ofBits .f32 0xC3E00000#32) (y * ldexp1 (0#32 - rowExponent a)))

theorem magnitude_nonneg (y : EReal) : 0 ≤ max y (-y) := by
  rcases le_total 0 y with h | h
  · exact le_max_of_le_left h
  · exact le_max_of_le_right (EReal.neg_nonneg.mpr h)

/-- A row's largest magnitude lies below `z` exactly if each of its magnitudes does. -/
theorem largest_le {n : ℕ} (y : Fin n → EReal) (z : EReal) : largest y ≤ z ↔ ∀ c, max (y c) (-y c) ≤ z := by
  unfold largest
  rw [Finset.fold_max_le]
  simp

theorem largest_nonneg {n : ℕ} (y : Fin (n + 1) → EReal) : 0 ≤ largest y :=
  (magnitude_nonneg (y 0)).trans ((largest_le y _).mp le_rfl 0)

theorem scaled_nonneg {a : EReal} (h : 0 ≤ a) : 0 ≤ a * Ideal.ofBits .f32 0x3B124925#32 := by
  have e : Ideal.ofBits .f32 0x3B124925#32 = ((((2 ^ 23 + 0x124925 : ℕ) : ℝ) * (2 : ℝ) ^ (-32 : ℤ) : ℝ) : EReal) := by
    have h1 : ((0x3B124925#32 : BitVec 32).extractLsb' 23 8).toNat = 118 := by decide +kernel
    have h2 : ((0x3B124925#32 : BitVec 32).extractLsb' 0 23).toNat = 0x124925 := by decide +kernel
    have h3 : ((0x3B124925#32 : BitVec 32).extractLsb' (8 + 23) 1 == 1#1) = false := by decide +kernel
    show Ideal.ieee 8 23 (w := 32) 0x3B124925#32 = _
    unfold Ideal.ieee
    simp only [h1, h2, h3, Bool.false_eq_true, if_false]
    norm_num
  rw [e]
  exact EReal.mul_nonneg h (EReal.coe_nonneg.mpr (by positivity))

/-- A row that is not empty has no negative largest magnitude. -/
theorem largest_nonneg_of_pos {n : ℕ} (hn : 0 < n) (y : Fin n → EReal) : 0 ≤ largest y := by
  obtain ⟨m, rfl⟩ := Nat.exists_eq_succ_of_ne_zero hn.ne'
  exact largest_nonneg y

/-- The exponent of a row's scale is a small integer. -/
theorem small_rowExponent {a : EReal} (h : 0 ≤ a) : Small (rowExponent a) := small_exponent1 (scaled_nonneg h)

/-! ## Conditions and constants as the programs write them -/

theorem ori_one (x y : BitVec 1) : IntOp.ori x y = 1 ↔ x = 1 ∨ y = 1 := by revert x y; decide

theorem cmpi_eq_one {w : ℕ} (x y : BitVec w) : IntOp.cmpi .eq x y = 1 ↔ x = y := by
  show BitVec.ofBool (x == y) = 1 ↔ x = y
  rw [← beq_iff_eq (a := x)]
  cases x == y <;> simp

theorem cmp_oeq_one (x y : EReal) : Ideal.cmp .oeq x y = 1 ↔ x = y := by
  by_cases h : x = y <;> simp [Ideal.cmp, h]

theorem cmp_oge_one (x y : EReal) : Ideal.cmp .oge x y = 1 ↔ y ≤ x := by
  by_cases h : y ≤ x <;> simp [Ideal.cmp, h]

/-- The 32-bit pattern of zero. -/
theorem bits_zero : Ideal.ofBits .f32 0x00000000#32 = 0 := ofBits_field 0 (by norm_num)

/-- The pattern of the positive infinity: the exponent field 255. -/
theorem bits_top : Ideal.ofBits .f32 0x7F800000#32 = ⊤ := ofBits_field 255 (by norm_num)

/-- The pattern of the negative infinity, which a maximum over a row starts from. -/
theorem bits_bot : Ideal.ofBits .f32 0xFF800000#32 = ⊥ := by
  show Ideal.ieee 8 23 (w := 32) 0xFF800000#32 = ⊥
  have h1 : ((0xFF800000#32 : BitVec 32).extractLsb' 23 8).toNat = 255 := by decide +kernel
  have h2 : ((0xFF800000#32 : BitVec 32).extractLsb' 0 23).toNat = 0 := by decide +kernel
  have h3 : ((0xFF800000#32 : BitVec 32).extractLsb' (8 + 23) 1 == 1#1) = true := by decide +kernel
  unfold Ideal.ieee
  simp only [h1, h2, h3, if_true]
  norm_num

theorem shli_23 (x : BitVec 32) : IntOp.shli .vector x 23#32 = x <<< 23#32 := if_pos (by decide)

end Cert.Math

end
-- ==== Proof.StepValues.lean ====
/- What one step of the kernel computes, at an index, with exact arithmetic. -/
module

public import proofs.«01_k».proof.Proof.Readback
public import proofs.«01_k».proof.Proof.Spec
public import Idealize.ShloMosaic.Lib.Pointwise

@[expose] public section

set_option maxRecDepth 16384

noncomputable section

namespace Cert.KernelIdeal.Hand

open Cert.KernelIdeal Cert.KernelIdeal.Gen Cert.Math
open Idealize.ShloMosaic Idealize.ShloMosaic.TcCoe Idealize.ShloMosaic.Tactic
open Idealize.ShloMosaic.ValueIdx (idx2_lt0 idx2_lt1)

variable (L : Loads Ideal)

/-- The products of a group of columns. -/
theorem acc_apply (j : Fin 9) (r : Fin 256) (l : Fin 512) :
    L.acc j (ix2 r l) = ∑ q : Fin 3072, L.x (ix2 r q) * L.w j (ix2 q l) := by
  unfold Loads.acc k0_pay3
  pointwise

/-- The token scales, one per row of the block: row `r`'s lies in lane `r % 128` of row `r / 128`. -/
theorem pay2_apply (v : Vec Ideal S2x128 .f32) (r : Fin 256) (l : Fin 128) :
    k0_pay2 v (ix2 r l) = v (ix2 ⟨r.val / 128, by omega⟩ ⟨r.val % 128, by omega⟩) := by
  unfold k0_pay2
  pointwise
  by_cases h : r.val < 128
  · refine (dif_pos h).trans ?_
    exact congrArg₂ (fun a b => v (ix2 a b)) (Fin.ext (by show 0 = r.val / 128; omega)) (Fin.ext (by show r.val = r.val % 128; omega))
  · refine (dif_neg h).trans ?_
    exact congrArg₂ (fun a b => v (ix2 a b)) (Fin.ext (by show 1 = r.val / 128; omega))
      (Fin.ext (by show r.val - 128 = r.val % 128; omega))

/-- Element `l` of row `r` of tile `k` of `y`. -/
theorem y_apply (k : Fin 36) (r : Fin 256) (l : Fin 128) :
    L.y k (ix2 r l) = linear (fun q : Fin 3072 => L.x (ix2 r q)) (fun q => L.w (group k) (ix2 q ⟨128 * (k.val % 4) + l.val, by omega⟩))
      (L.xs (ix2 ⟨r.val / 128, by omega⟩ ⟨r.val % 128, by omega⟩)) (L.ws k (ix2 0 l)) (L.b k (ix2 0 l)) := by
  unfold Loads.y linear
  rw [← pay2_apply L.xs r l, ← acc_apply]
  pointwise

/-! ## The exponent -/

theorem trial_apply (s : Shape) (r : FVec Ideal s .f32) (bit : BitVec 32) (f : IVec s 32) (i : s.Idx) :
    trial s r bit f i = trial1 (r i) bit (f i) := by
  show Scalar.select (Ideal.cmp .oge (r i) (Ideal.ofBits .f32 (IntOp.shli .vector (f i + bit) 23#32))) (f i + bit) (f i) = _
  rw [shli_23]
  rfl

theorem field_apply (s : Shape) (r : FVec Ideal s .f32) (i : s.Idx) : field s r i = field1 (r i) := by
  unfold field field1
  simp only [trial_apply]
  rfl

/-- The exponent of each place is that of its largest magnitude. -/
theorem exponent_apply (s : Shape) (a : FVec Ideal s .f32) (i : s.Idx) : exponent s a i = rowExponent (a i) := by
  have hf := field_apply s (mulf a (broadcast s (Scalar.ofBits (F := Ideal) .f32 0x3B124925#32))) i
  have hr : (mulf a (broadcast s (Scalar.ofBits (F := Ideal) .f32 0x3B124925#32)) i : EReal)
      = (a i : EReal) * Ideal.ofBits .f32 0x3B124925#32 := rfl
  rw [hr] at hf
  unfold rowExponent exponent1
  rw [← hf]
  show (if Ideal.cmp .oeq (a i) (Ideal.ofBits .f32 0x00000000#32) = 1 then 0#32
    else if IntOp.ori (IntOp.cmpi .eq (field s (mulf a (broadcast s (Scalar.ofBits (F := Ideal) .f32 0x3B124925#32))) i) 0#32)
      (IntOp.cmpi .eq (field s (mulf a (broadcast s (Scalar.ofBits (F := Ideal) .f32 0x3B124925#32))) i) 255#32) = 1 then 0#32
    else field s (mulf a (broadcast s (Scalar.ofBits (F := Ideal) .f32 0x3B124925#32))) i - 126#32) = _
  simp only [cmp_oeq_one, ori_one, cmpi_eq_one, bits_zero]

/-- The power of two of each place is that of its exponent. -/
theorem ldexpOne_apply (s : Shape) (n : IVec s 32) (i : s.Idx) : (ldexpOne (F := Ideal) s n i : EReal) = ldexp1 (n i) := by
  show Ideal.ofBits .f32 (IntOp.shli .vector (IntOp.minsi 255#32 (IntOp.maxsi 0#32 (n i + 127#32))) 23#32) = _
  rw [shli_23]
  rfl

/-! ## The largest magnitude of a row -/

/-- Row `r` of the block of `y`, all its 4608 columns. -/
def Loads.row (r : Fin 256) (c : Fin 4608) : EReal := L.y ⟨c.val / 128, by omega⟩ (ix2 r ⟨c.val % 128, by omega⟩)

theorem amax_le (n : ℕ) (h : n ≤ 36) (r : Fin 256) (l : Fin 128) (z : EReal) :
    (L.amax n h (ix2 r l) : EReal) ≤ z ↔ 0 ≤ z ∧ ∀ k : Fin 36, k.val < n →
      max (L.y k (ix2 r l) : EReal) (-(L.y k (ix2 r l) : EReal)) ≤ z := by
  induction n with
  | zero =>
    show Ideal.ofBits .f32 0x00000000#32 ≤ z ↔ _
    rw [bits_zero]
    simp
  | succ n ih =>
    show max (L.amax n _ (ix2 r l) : EReal) (max (L.y ⟨n, h⟩ (ix2 r l) : EReal) (-(L.y ⟨n, h⟩ (ix2 r l) : EReal))) ≤ z ↔ _
    rw [max_le_iff, ih (by omega), and_assoc]
    refine and_congr_right fun _ => ⟨fun hh k hk => ?_, fun hh => ⟨fun k hk => hh k (by omega), hh ⟨n, h⟩ (Nat.lt_succ_self n)⟩⟩
    rcases Nat.lt_succ_iff_lt_or_eq.mp hk with hk | hk
    · exact hh.1 k hk
    · obtain rfl : k = ⟨n, h⟩ := Fin.ext hk
      exact hh.2

/-- The maximum over the lanes of the maxima over the tiles is the row's largest magnitude. -/
theorem fold_amax (r : Fin 256) :
    (Finset.univ.fold max ⊥ fun l : Fin 128 => (L.amax 36 le_rfl (ix2 r l) : EReal)) = largest (L.row r) := by
  refine eq_of_forall_ge_iff fun z => ?_
  rw [Finset.fold_max_le, largest_le]
  simp only [bot_le, true_and, Finset.mem_univ, forall_true_left, amax_le]
  constructor
  · exact fun hh c => (hh ⟨c.val % 128, by omega⟩).2 ⟨c.val / 128, by omega⟩ (by show c.val / 128 < 36; omega)
  · intro hh l
    have key : ∀ k : Fin 36, max (L.y k (ix2 r l) : EReal) (-(L.y k (ix2 r l) : EReal)) ≤ z := by
      intro k
      have e := hh ⟨128 * k.val + l.val, by omega⟩
      unfold Loads.row at e
      have e1 : (⟨(128 * k.val + l.val) / 128, by omega⟩ : Fin 36) = k := Fin.ext (by show (128 * k.val + l.val) / 128 = k.val; omega)
      have e2 : (⟨(128 * k.val + l.val) % 128, by omega⟩ : Fin 128) = l := Fin.ext (by show (128 * k.val + l.val) % 128 = l.val; omega)
      simp only [e1, e2] at e
      exact e
    exact ⟨(magnitude_nonneg _).trans (key 0), fun k _ => key k⟩

theorem rowMax_apply (r : Fin 256) : (L.rowMax (ix2 r 0) : EReal) = largest (L.row r) := by
  rw [← fold_amax, ← bits_bot]
  unfold Loads.rowMax
  pointwise

/-- The maxima of the first 128 rows of the block, in lanes. -/
theorem pay159_apply (v : FVec Ideal S256x128 .f32) (l : Fin 128) : (k0_pay159 v (ix2 0 l) : EReal)
    = Finset.univ.fold max (Ideal.ofBits .f32 0xFF800000#32) fun x : Fin 128 => (v (ix2 ⟨l.val, by omega⟩ x) : EReal) := by
  unfold k0_pay159
  pointwise

/-- The maxima of the other 128 rows. -/
theorem pay160_apply (v : FVec Ideal S256x128 .f32) (l : Fin 128) : (k0_pay160 v (ix2 0 l) : EReal)
    = Finset.univ.fold max (Ideal.ofBits .f32 0xFF800000#32) fun x : Fin 128 => (v (ix2 ⟨128 + l.val, by omega⟩ x) : EReal) := by
  unfold k0_pay160
  pointwise

/-- The two rows of lanes. -/
theorem pay161_apply (a b : FVec Ideal S1x128 .f32) (g : Fin 2) (l : Fin 128) :
    (k0_pay161 a b (ix2 g l) : EReal) = if g.val < 1 then a (ix2 0 l) else b (ix2 0 l) := by
  unfold k0_pay161
  pointwise
  by_cases h : g.val < 1
  · rw [dif_pos h, if_pos h]
    exact congrArg (fun q : Fin 1 => a (ix2 q l)) (Fin.ext (by show g.val = 0; omega))
  · rw [dif_neg h, if_neg h]
    exact congrArg (fun q : Fin 1 => b (ix2 q l)) (Fin.ext (by show g.val - 1 = 0; omega))

theorem laneMax_apply (g : Fin 2) (l : Fin 128) :
    (L.laneMax (ix2 g l) : EReal) = largest (L.row ⟨128 * g.val + l.val, by omega⟩) := by
  rw [← fold_amax, ← bits_bot]
  unfold Loads.laneMax
  rw [pay161_apply, pay159_apply, pay160_apply]
  by_cases h : g.val < 1
  · rw [if_pos h]
    exact congrArg (fun q : Fin 256 => Finset.univ.fold max (Ideal.ofBits .f32 0xFF800000#32) fun x : Fin 128 => (L.amax 36 le_rfl (ix2 q x) : EReal))
      (Fin.ext (by show l.val = 128 * g.val + l.val; omega))
  · rw [if_neg h]
    exact congrArg (fun q : Fin 256 => Finset.univ.fold max (Ideal.ofBits .f32 0xFF800000#32) fun x : Fin 128 => (L.amax 36 le_rfl (ix2 q x) : EReal))
      (Fin.ext (by show 128 + l.val = 128 * g.val + l.val; omega))

/-! ## What the step stores -/

/-- The scale of row `128 g + l` of the block. -/
theorem scale_apply (g : Fin 2) (l : Fin 128) :
    (L.scale (ix2 g l) : EReal) = rowScale (largest (L.row ⟨128 * g.val + l.val, by omega⟩)) := by
  unfold Loads.scale rowScale
  rw [ldexpOne_apply, exponent_apply]
  exact congrArg (fun a => ldexp1 (rowExponent a)) (laneMax_apply L g l)

theorem inv_apply (r : Fin 256) : (L.inv (ix2 r 0) : EReal) = ldexp1 (0#32 - rowExponent (largest (L.row r))) := by
  unfold Loads.inv
  rw [ldexpOne_apply]
  show ldexp1 (0#32 - exponent S256x1 L.rowMax (ix2 r 0)) = _
  rw [exponent_apply]
  exact congrArg (fun a => ldexp1 (0#32 - rowExponent a)) (rowMax_apply L r)

theorem codes_apply (inv : FVec Ideal S256x1 .f32) (y : Vec Ideal S256x128 .f32) (r : Fin 256) (l : Fin 128) :
    (codes inv y (ix2 r l) : EReal) = min (Ideal.ofBits .f32 0x43E00000#32) (max (Ideal.ofBits .f32 0xC3E00000#32) (y (ix2 r l) * inv (ix2 r 0))) := by
  unfold codes
  pointwise

/-- The code at row `r` and column `c` of the block. -/
theorem codeBlock_apply (r : Fin 256) (c : Fin 4608) :
    (L.codeBlock (ix2 r c) : EReal) = rowCode (largest (L.row r)) (L.row r c) := by
  have e : L.codeBlock (ix2 r c) = codes L.inv (L.y ⟨c.val / 128, by omega⟩) (ix2 r ⟨c.val % 128, by omega⟩) := rfl
  rw [e, codes_apply, inv_apply]
  rfl

end Cert.KernelIdeal.Hand

end
-- ==== Proof.Arrays.lean ====
/- The two results as functions of the five argument arrays. -/
module

public import proofs.«01_k».proof.Proof.Spec
public import Idealize.ShloMosaic.Lib.Pointwise

@[expose] public section

noncomputable section

namespace Cert.Math

open Idealize.ShloMosaic

variable (x : (⟨3, ![2, 1024, 3072]⟩ : Shape).Idx → EReal) (xs : (⟨3, ![2, 1024, 1]⟩ : Shape).Idx → EReal)
  (w : (⟨2, ![3072, 4608]⟩ : Shape).Idx → EReal) (ws b : (⟨1, ![4608]⟩ : Shape).Idx → EReal)

/-- `y` at token `r`, which is token `r % 1024` of batch `r / 1024`, and column `c`. -/
def yAt (r : Fin 2048) (c : Fin 4608) : EReal :=
  linear (fun k : Fin 3072 => x (ix3 ⟨r.val / 1024, by omega⟩ ⟨r.val % 1024, by omega⟩ k)) (fun k => w (ix2 k c))
    (xs (ix3 ⟨r.val / 1024, by omega⟩ ⟨r.val % 1024, by omega⟩ 0)) (ws (ix1 c)) (b (ix1 c))

/-- The scale of token `r`. -/
def scaleAt (r : Fin 2048) : EReal := rowScale (largest (yAt x xs w ws b r))

/-- The code at token `r` and column `c`. -/
def codeAt (r : Fin 2048) (c : Fin 4608) : EReal := rowCode (largest (yAt x xs w ws b r)) (yAt x xs w ws b r c)

/-- The first result: 16 rows of the scales of 128 tokens each. -/
def scaleArray : (⟨2, ![16, 128]⟩ : Shape).Idx → EReal := fun j =>
  scaleAt x xs w ws b ⟨128 * (j 0).val + (j 1).val, by
    have h0 : (j 0).val < 16 := (j 0).isLt
    have h1 : (j 1).val < 128 := (j 1).isLt
    omega⟩

/-- The second result: the codes. -/
def codeArray : (⟨2, ![2048, 4608]⟩ : Shape).Idx → EReal := fun j => codeAt x xs w ws b (j 0) (j 1)

end Cert.Math

end
-- ==== Proof.KernelValues.lean ====
/- The kernel's two arrays, with exact arithmetic, are the two results as functions of its arguments. -/
module

public import proofs.«01_k».proof.Proof.Launch
public import proofs.«01_k».proof.Proof.StepValues
public import proofs.«01_k».proof.Proof.Arrays

@[expose] public section

set_option maxRecDepth 16384

noncomputable section

namespace Cert.KernelIdeal.Hand

open Cert.KernelIdeal Cert.KernelIdeal.Gen Cert.Math
open Idealize.ShloMosaic Idealize.ShloMosaic.TcCoe Idealize.ShloMosaic.Tactic
open Idealize.ShloMosaic.ValueIdx (idx2_lt0 idx2_lt1)

variable (m : (ℓ : Loc nD τ sig) → Buf (Elt Ideal) ℓ) (c : Dev nD)

/-! ## The arrays the launch reads -/

theorem V_v0 (r : Fin 2048) (q : Fin 3072) : (V m c main_v0 (ix2 r q) : EReal)
    = m ((c : Thread nD τ).loc main_arg0) (ix3 ⟨r.val / 1024, by omega⟩ ⟨r.val % 1024, by omega⟩ q) := by
  entry_read
  pointwise

theorem V_v1 (i : Fin 16) (l : Fin 128) : (V m c main_v1 (ix2 i l) : EReal)
    = m ((c : Thread nD τ).loc main_arg1) (ix3 ⟨(128 * i.val + l.val) / 1024, by omega⟩ ⟨(128 * i.val + l.val) % 1024, by omega⟩ 0) := by
  entry_read
  pointwise
  exact congrArg₂ (fun a b => m ((c : Thread nD τ).loc main_arg1) (ix3 a b 0))
    (Fin.ext (by show i.val / 8 = (128 * i.val + l.val) / 1024; omega))
    (Fin.ext (by show i.val % 8 * 128 + l.val = (128 * i.val + l.val) % 1024; omega))

theorem V_v2 (k : Fin 36) (l : Fin 128) : (V m c main_v2 (ix2 k l) : EReal)
    = m ((c : Thread nD τ).loc main_arg3) (ix1 ⟨128 * k.val + l.val, by omega⟩) := by
  entry_read
  pointwise
  exact congrArg (fun a => m ((c : Thread nD τ).loc main_arg3) (ix1 a)) (Fin.ext (by show k.val * 128 + l.val = 128 * k.val + l.val; omega))

theorem V_v3 (k : Fin 36) (l : Fin 128) : (V m c main_v3 (ix2 k l) : EReal)
    = m ((c : Thread nD τ).loc main_arg4) (ix1 ⟨128 * k.val + l.val, by omega⟩) := by
  entry_read
  pointwise
  exact congrArg (fun a => m ((c : Thread nD τ).loc main_arg4) (ix1 a)) (Fin.ext (by show k.val * 128 + l.val = 128 * k.val + l.val; omega))

/-! ## What step `t` loads -/

/-- Which block each window holds at step `t`: the rows of `x` from `256 t` on, and the whole of the others. -/
theorem indexIn : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) :=
  (by decide +kernel : ∀ t : Fin grid0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0))

theorem step_lt (t : Fin cfg0.N) : t.val < 8 := by
  have h : t.val < grid0.N := t.isLt
  rwa [N_0] at h

theorem iblk0_apply (t : Fin cfg0.N) (r : Fin 256) (q : Fin 3072) :
    (iblk m c 0 t (ix2 r q) : EReal) = V m c main_v0 (ix2 ⟨256 * t.val + r.val, by have := step_lt t; omega⟩ q) := by
  have hi := (indexIn t).1
  show V m c main_v0 ((win0_0.blk t).view.emb (ix2 r q)) = _
  refine congrArg (V m c main_v0) ?_
  funext a
  match a with
  | ⟨0, _⟩ => exact Fin.ext (by show (((win0_0.blk t).view.emb (ix2 r q)) 0 : ℕ) = 256 * t.val + r.val; blk_simp; rw [hi.1]; omega)
  | ⟨1, _⟩ => exact Fin.ext (by show (((win0_0.blk t).view.emb (ix2 r q)) 1 : ℕ) = q.val; blk_simp; rw [hi.2]; omega)

theorem iblk1_apply (t : Fin cfg0.N) (j : S16x128.Idx) : (iblk m c 1 t j : EReal) = V m c main_v1 j := by
  have hi := (indexIn t).2.1
  show V m c main_v1 ((win0_1.blk t).view.emb j) = _
  refine congrArg (V m c main_v1) ?_
  funext a
  match a with
  | ⟨0, _⟩ => exact Fin.ext (by show (((win0_1.blk t).view.emb j) 0 : ℕ) = (j 0).val; blk_simp; rw [hi.1]; omega)
  | ⟨1, _⟩ => exact Fin.ext (by show (((win0_1.blk t).view.emb j) 1 : ℕ) = (j 1).val; blk_simp; rw [hi.2]; omega)

theorem iblk2_apply (t : Fin cfg0.N) (j : S3072x4608.Idx) : (iblk m c 2 t j : EReal) = m ((c : Thread nD τ).loc main_arg2) j := by
  have hi := (indexIn t).2.2.1
  rw [← V_main_arg2 m c]
  show V m c main_arg2 ((win0_2.blk t).view.emb j) = _
  refine congrArg (V m c main_arg2) ?_
  funext a
  match a with
  | ⟨0, _⟩ => exact Fin.ext (by show (((win0_2.blk t).view.emb j) 0 : ℕ) = (j 0).val; blk_simp; rw [hi.1]; omega)
  | ⟨1, _⟩ => exact Fin.ext (by show (((win0_2.blk t).view.emb j) 1 : ℕ) = (j 1).val; blk_simp; rw [hi.2]; omega)

theorem iblk3_apply (t : Fin cfg0.N) (j : S36x128.Idx) : (iblk m c 3 t j : EReal) = V m c main_v2 j := by
  have hi := (indexIn t).2.2.2.1
  show V m c main_v2 ((win0_3.blk t).view.emb j) = _
  refine congrArg (V m c main_v2) ?_
  funext a
  match a with
  | ⟨0, _⟩ => exact Fin.ext (by show (((win0_3.blk t).view.emb j) 0 : ℕ) = (j 0).val; blk_simp; rw [hi.1]; omega)
  | ⟨1, _⟩ => exact Fin.ext (by show (((win0_3.blk t).view.emb j) 1 : ℕ) = (j 1).val; blk_simp; rw [hi.2]; omega)

theorem iblk4_apply (t : Fin cfg0.N) (j : S36x128.Idx) : (iblk m c 4 t j : EReal) = V m c main_v3 j := by
  have hi := (indexIn t).2.2.2.2
  show V m c main_v3 ((win0_4.blk t).view.emb j) = _
  refine congrArg (V m c main_v3) ?_
  funext a
  match a with
  | ⟨0, _⟩ => exact Fin.ext (by show (((win0_4.blk t).view.emb j) 0 : ℕ) = (j 0).val; blk_simp; rw [hi.1]; omega)
  | ⟨1, _⟩ => exact Fin.ext (by show (((win0_4.blk t).view.emb j) 1 : ℕ) = (j 1).val; blk_simp; rw [hi.2]; omega)

/-- A load at the place `off` reads `(p, q)` of it at `(off 0 + p, off 1 + q)`. -/
theorem ld_apply {n0 n1 k0 k1 : ℕ} {e : EltTy} (X : Vec Ideal (⟨2, ![n0, n1]⟩ : Shape) e) (off : Fin 2 → ℕ)
    (h : ∀ a, off a + (![k0, k1] : Fin 2 → ℕ) a ≤ (⟨2, ![n0, n1]⟩ : Shape).size a) (p : Fin k0) (q : Fin k1)
    (p' : Fin n0) (q' : Fin n1) (hp : p'.val = off 0 + p.val) (hq : q'.val = off 1 + q.val) :
    View.ld X (Rect.unit (s := (⟨2, ![n0, n1]⟩ : Shape)) off ![k0, k1] h) (ix2 p q) = X (ix2 p' q') := by
  show X ((Rect.unit (s := (⟨2, ![n0, n1]⟩ : Shape)) off ![k0, k1] h).emb (ix2 p q)) = _
  refine congrArg X ?_
  funext a
  match a with
  | ⟨0, _⟩ => exact Fin.ext ((Rect.idx_unit_val (s := (⟨2, ![n0, n1]⟩ : Shape)) _ _ _ (ix2 p q) 0).trans hp.symm)
  | ⟨1, _⟩ => exact Fin.ext ((Rect.idx_unit_val (s := (⟨2, ![n0, n1]⟩ : Shape)) _ _ _ (ix2 p q) 1).trans hq.symm)

/-- Row `r` of step `t`'s block of `y` is the row of token `256 t + r`. -/
theorem row_eq (t : Fin cfg0.N) (r : Fin 256) (i : Fin 2048) (hi : i.val = 256 * t.val + r.val) :
    (stepLoads m c t).row r = yAt (m ((c : Thread nD τ).loc main_arg0)) (m ((c : Thread nD τ).loc main_arg1))
      (m ((c : Thread nD τ).loc main_arg2)) (m ((c : Thread nD τ).loc main_arg3)) (m ((c : Thread nD τ).loc main_arg4)) i := by
  funext n
  have ht := step_lt t
  have hc := coords_val t
  have hx : ∀ q : Fin 3072, ((stepLoads m c t).x (ix2 r q) : EReal)
      = m ((c : Thread nD τ).loc main_arg0) (ix3 ⟨i.val / 1024, by omega⟩ ⟨i.val % 1024, by omega⟩ q) := by
    intro q
    refine (iblk0_apply m c t r q).trans ?_
    rw [V_v0]
    simp only [← hi]
  have hw : ∀ q : Fin 3072, ((stepLoads m c t).w (group ⟨n.val / 128, by omega⟩)
      (ix2 q ⟨128 * ((n.val / 128) % 4) + n.val % 128, by omega⟩) : EReal) = m ((c : Thread nD τ).loc main_arg2) (ix2 q n) := by
    intro q
    refine (ld_apply (iblk m c 2 t) _ _ q _ q n (by show q.val = 0 + q.val; omega)
      (by show n.val = 512 * (n.val / 128 / 4) + (128 * ((n.val / 128) % 4) + n.val % 128); omega)).trans ?_
    exact iblk2_apply m c t _
  have hxs : ((stepLoads m c t).xs (ix2 ⟨r.val / 128, by omega⟩ ⟨r.val % 128, by omega⟩) : EReal)
      = m ((c : Thread nD τ).loc main_arg1) (ix3 ⟨i.val / 1024, by omega⟩ ⟨i.val % 1024, by omega⟩ 0) := by
    refine (ld_apply (iblk m c 1 t) _ _ _ _ (⟨2 * t.val + r.val / 128, by omega⟩ : Fin 16) (⟨r.val % 128, by omega⟩ : Fin 128)
      ?_ ?_).trans ?_
    · rw [k0_off1_eq]; show 2 * t.val + r.val / 128 = 2 * ((grid0.coords t) 0).val + r.val / 128; rw [hc]
    · rw [k0_off1_eq]; show r.val % 128 = 0 + r.val % 128; omega
    · rw [iblk1_apply, V_v1]
      have e : 128 * (2 * t.val + r.val / 128) + r.val % 128 = i.val := by omega
      simp only [e]
  have hws : ((stepLoads m c t).ws ⟨n.val / 128, by omega⟩ (ix2 0 ⟨n.val % 128, by omega⟩) : EReal)
      = m ((c : Thread nD τ).loc main_arg3) (ix1 n) := by
    refine (ld_apply (iblk m c 3 t) _ _ _ _ (⟨n.val / 128, by omega⟩ : Fin 36) (⟨n.val % 128, by omega⟩ : Fin 128)
      (by show n.val / 128 = n.val / 128 + 0; omega) (by show n.val % 128 = 0 + n.val % 128; omega)).trans ?_
    rw [iblk3_apply, V_v2]
    exact congrArg (fun a => m ((c : Thread nD τ).loc main_arg3) (ix1 a)) (Fin.ext (by show 128 * (n.val / 128) + n.val % 128 = n.val; omega))
  have hb : ((stepLoads m c t).b ⟨n.val / 128, by omega⟩ (ix2 0 ⟨n.val % 128, by omega⟩) : EReal)
      = m ((c : Thread nD τ).loc main_arg4) (ix1 n) := by
    refine (ld_apply (iblk m c 4 t) _ _ _ _ (⟨n.val / 128, by omega⟩ : Fin 36) (⟨n.val % 128, by omega⟩ : Fin 128)
      (by show n.val / 128 = n.val / 128 + 0; omega) (by show n.val % 128 = 0 + n.val % 128; omega)).trans ?_
    rw [iblk4_apply, V_v3]
    exact congrArg (fun a => m ((c : Thread nD τ).loc main_arg4) (ix1 a)) (Fin.ext (by show 128 * (n.val / 128) + n.val % 128 = n.val; omega))
  unfold Loads.row yAt
  refine (y_apply _ _ _ _).trans ?_
  unfold linear
  rw [hxs, hws, hb]
  refine congrArg (fun s => s * _ * _ + _) (Finset.sum_congr rfl fun q _ => ?_)
  exact congrArg₂ (· * ·) (hx q) (hw q)

/-! ## The results -/

/-- The kernel's first result is the array of the scales. -/
theorem scales_eq : scales m c = scaleArray (m ((c : Thread nD τ).loc main_arg0)) (m ((c : Thread nD τ).loc main_arg1))
      (m ((c : Thread nD τ).loc main_arg2)) (m ((c : Thread nD τ).loc main_arg3)) (m ((c : Thread nD τ).loc main_arg4)) := by
  funext j
  have h0 := idx2_lt0 j
  have h1 := idx2_lt1 j
  refine (scale_apply _ _ _).trans ?_
  show rowScale (largest _) = rowScale (largest _)
  rw [row_eq m c _ _ ⟨128 * (j 0).val + (j 1).val, by omega⟩
    (by show 128 * (j 0).val + (j 1).val = 256 * ((j 0).val / 2) + (128 * ((j 0).val % 2) + (j 1).val); omega)]

/-- The kernel's second result is the array of the codes. -/
theorem codesArr_eq : codesArr m c = codeArray (m ((c : Thread nD τ).loc main_arg0)) (m ((c : Thread nD τ).loc main_arg1))
      (m ((c : Thread nD τ).loc main_arg2)) (m ((c : Thread nD τ).loc main_arg3)) (m ((c : Thread nD τ).loc main_arg4)) := by
  funext j
  have h0 := idx2_lt0 j
  have h1 := idx2_lt1 j
  refine (codeBlock_apply _ _ _).trans ?_
  show rowCode (largest _) _ = rowCode (largest _) _
  rw [row_eq m c _ _ (j 0) (by show (j 0).val = 256 * ((j 0).val / 256) + (j 0).val % 256; omega)]
  rfl

end Cert.KernelIdeal.Hand

end
-- ==== Proof.RefValues.lean ====
/- What the reference computes, at an index, with exact arithmetic. -/
module

public import proofs.«01_k».proof.Proof.Gen.ReferenceIdeal.Skeleton
public import proofs.«01_k».proof.Proof.Arrays
public import Idealize.ShloMosaic.Lib.Pointwise
public import Idealize.ShloMosaic.Lib.IndicatorCount

@[expose] public section

set_option maxRecDepth 16384

noncomputable section

namespace Cert.ReferenceIdeal.Hand

open Cert.ReferenceIdeal Cert.ReferenceIdeal.Gen Cert.Math
open Idealize.ShloMosaic Idealize.ShloMosaic.TcCoe Idealize.ShloMosaic.Tactic
open Idealize.ShloMosaic.ValueIdx (idx2_lt0 idx2_lt1)

variable (x : Vec Ideal S2048x3072 .fp8e4m3) (w : Vec Ideal S3072x4608 .fp8e4m3) (xs : Vec Ideal S2048x1 .f32)
  (ws b : Vec Ideal S1x4608 .f32)

/-- `y` at row `r` and column `c`. -/
theorem pay4_apply (r : Fin 2048) (c : Fin 4608) : (k0_pay4 x w xs ws b (ix2 r c) : EReal)
    = linear (fun k : Fin 3072 => (x (ix2 r k) : EReal)) (fun k => w (ix2 k c)) (xs (ix2 r 0)) (ws (ix2 0 c)) (b (ix2 0 c)) := by
  unfold k0_pay4 linear
  pointwise

/-- The largest magnitude of row `r`. -/
theorem pay5_apply (r : Fin 2048) : (k0_pay5 x w xs ws b (ix2 r 0) : EReal)
    = largest fun c : Fin 4608 => (k0_pay4 x w xs ws b (ix2 r c) : EReal) := by
  unfold k0_pay5 largest
  rw [← bits_bot]
  generalize k0_pay4 x w xs ws b = y
  pointwise
  rfl

theorem power_bits : ∀ k : Fin 254, (BitVec.ofNat 32 k.val - 126#32).toInt = (k.val : ℤ) - 126 := by decide +kernel

theorem exp2_int (n : BitVec 32) : Ideal.exp2 (((n.toInt : ℝ)) : EReal) = (((2 : ℝ) ^ n.toInt : ℝ) : EReal) := by
  rw [Ideal.exp2_coe]
  exact congrArg _ (Real.rpow_intCast 2 n.toInt)

/-- The powers of two that magnitudes are compared with. -/
def powers : FVec Ideal S1x254 .f32 :=
  exp2 (sitofp .f32 (subi (iota .tc S1x254 32 [1] iota_S1x254_d1_w32) (broadcast S1x254 126#32)))

theorem iota_apply (k : Fin 254) : iota .tc S1x254 32 [1] iota_S1x254_d1_w32 (ix2 0 k) = BitVec.ofNat 32 k.val := by
  pointwise

theorem powers_apply (k : Fin 254) : (powers (ix2 0 k) : EReal) = (((2 : ℝ) ^ ((k.val : ℤ) - 126) : ℝ) : EReal) := by
  show Ideal.exp2 ((((iota .tc S1x254 32 [1] iota_S1x254_d1_w32 (ix2 0 k) - 126#32).toInt : ℝ)) : EReal) = _
  rw [iota_apply, exp2_int, power_bits]

/-- How many of the entries of `p` each row reaches. -/
theorem count_apply (v : FVec Ideal S2048x1 .f32) (p : FVec Ideal S1x254 .f32) (r : Fin 2048) :
    shapeCast S2048x1 (multiReductionI .add [1] S2048 (extui 32 (cmpf .oge (broadcastTo S2048x254 v broadcasts_S2048x1_S2048x254)
      (broadcastTo S2048x254 p broadcasts_S1x254_S2048x254)) natLt_1_32) 0#32 reduces_S2048x254_S2048 rfl) shapeCasts_S2048_S2048x1 (ix2 r 0)
    = BitVec.ofNat 32 (Finset.univ.filter fun k : Fin 254 => (p (ix2 0 k) : EReal) ≤ v (ix2 r 0)).card := by
  pointwise
  refine (IndicatorCount.fold_addi_setWidth_eq_card (fun k : Fin 254 => BitVec.ofBool (decide ((p (ix2 0 k) : EReal) ≤ v (ix2 r 0)))) Finset.univ).trans ?_
  refine congrArg (fun S : Finset (Fin 254) => BitVec.ofNat 32 S.card) (Finset.filter_congr fun k _ => ?_)
  by_cases h : (p (ix2 0 k) : EReal) ≤ v (ix2 r 0) <;> simp [h]

/-- The number of the powers of two that row `r`'s scaled magnitude reaches. -/
theorem pay8_apply (r : Fin 2048) : k0_pay8 x w xs ws b (ix2 r 0)
    = BitVec.ofNat 32 (Finset.univ.filter fun k : Fin 254 =>
        (((2 : ℝ) ^ ((k.val : ℤ) - 126) : ℝ) : EReal) ≤ k0_pay7 x w xs ws b (ix2 r 0)).card := by
  refine (count_apply (k0_pay7 x w xs ws b) powers r).trans ?_
  simp only [powers_apply]

/-! ## The exponent of a row's scale -/

/-- The selects that choose an exponent, at a row. -/
theorem exponent_select (a v : FVec Ideal S2048x1 .f32) (n : IVec S2048x1 32) (i : S2048x1.Idx) :
    k0_pay1 (cmpf .oeq a (broadcast S2048x1 (Scalar.ofBits (F := Ideal) .f32 0x00000000#32)))
        (ori (cmpi .eq n (broadcast S2048x1 0#32)) (cmpf .oeq v (broadcast S2048x1 (Scalar.ofBits (F := Ideal) .f32 0x7F800000#32))))
        (subi n (broadcast S2048x1 126#32)) i
      = if (a i : EReal) = 0 then 0#32 else if n i = 0#32 ∨ (v i : EReal) = ⊤ then 0#32 else n i - 126#32 := by
  show (if Ideal.cmp .oeq (a i) (Ideal.ofBits .f32 0x00000000#32) = 1 then 0#32
    else if IntOp.ori (IntOp.cmpi .eq (n i) 0#32) (Ideal.cmp .oeq (v i) (Ideal.ofBits .f32 0x7F800000#32)) = 1 then 0#32
    else n i - 126#32) = _
  simp only [cmp_oeq_one, ori_one, cmpi_eq_one, bits_zero, bits_top]

/-- They choose the exponent of the scale, given the scaled magnitude and the number of powers that it reaches. -/
theorem exponent_row (a v : FVec Ideal S2048x1 .f32) (n : IVec S2048x1 32) (i : S2048x1.Idx) (ha : (0 : EReal) ≤ a i)
    (hv : (v i : EReal) = (a i : EReal) * Ideal.ofBits .f32 0x3B124925#32)
    (hn : n i = BitVec.ofNat 32 (Finset.univ.filter fun k : Fin 254 => (((2 : ℝ) ^ ((k.val : ℤ) - 126) : ℝ) : EReal) ≤ v i).card) :
    k0_pay1 (cmpf .oeq a (broadcast S2048x1 (Scalar.ofBits (F := Ideal) .f32 0x00000000#32)))
        (ori (cmpi .eq n (broadcast S2048x1 0#32)) (cmpf .oeq v (broadcast S2048x1 (Scalar.ofBits (F := Ideal) .f32 0x7F800000#32))))
        (subi n (broadcast S2048x1 126#32)) i = rowExponent (a i) := by
  rw [exponent_select, hn, hv]
  unfold rowExponent
  rw [exponent1_eq (scaled_nonneg ha)]
  rfl

/-- The exponents of the rows' scales. -/
def exponentArr : IVec S2048x1 32 := k0_pay1 (k0_pay6 x w xs ws b) (k0_pay9 x w xs ws b) (k0_pay10 x w xs ws b)

/-- The constant of the scaling times a row's value. -/
theorem scaled_apply (a : FVec Ideal S2048x1 .f32) (i : S2048x1.Idx) :
    (mulf a (broadcast S2048x1 (Scalar.ofBits (F := Ideal) .f32 0x3B124925#32)) i : EReal)
      = (a i : EReal) * Ideal.ofBits .f32 0x3B124925#32 := rfl

/-- The scaled magnitudes of the rows. -/
theorem pay7_eq : k0_pay7 x w xs ws b
    = mulf (k0_pay5 x w xs ws b) (broadcast S2048x1 (Scalar.ofBits (F := Ideal) .f32 0x3B124925#32)) := by
  unfold k0_pay7
  exact rfl

/-- The scaled magnitude of a row. -/
theorem pay7_apply (i : S2048x1.Idx) :
    (k0_pay7 x w xs ws b i : EReal) = (k0_pay5 x w xs ws b i : EReal) * Ideal.ofBits .f32 0x3B124925#32 :=
  (congrFun (pay7_eq x w xs ws b) i).trans (scaled_apply _ i)

/-- No row's largest magnitude is negative. -/
theorem pay5_nonneg (r : Fin 2048) : (0 : EReal) ≤ k0_pay5 x w xs ws b (ix2 r 0) :=
  (largest_nonneg_of_pos (by decide) _).trans_eq (pay5_apply x w xs ws b r).symm

/-- The exponent of row `r`'s scale, from the row's largest magnitude. -/
theorem exponentArr_pay5 (r : Fin 2048) : exponentArr x w xs ws b (ix2 r 0) = rowExponent (k0_pay5 x w xs ws b (ix2 r 0)) := by
  have ha := pay5_nonneg x w xs ws b r
  have hv := pay7_apply x w xs ws b (ix2 r 0)
  have hn := pay8_apply x w xs ws b r
  unfold exponentArr k0_pay6 k0_pay9 k0_pay10
  generalize k0_pay5 x w xs ws b = a at *
  generalize k0_pay7 x w xs ws b = v at *
  generalize k0_pay8 x w xs ws b = n at *
  exact exponent_row a v n (ix2 r 0) ha hv hn

/-- The exponent of row `r`'s scale is that of its largest magnitude. -/
theorem exponentArr_apply (r : Fin 2048) :
    exponentArr x w xs ws b (ix2 r 0) = rowExponent (largest fun c : Fin 4608 => (k0_pay4 x w xs ws b (ix2 r c) : EReal)) :=
  (exponentArr_pay5 x w xs ws b r).trans (congrArg rowExponent (pay5_apply x w xs ws b r))

/-! ## The power of two -/

/-- The power of two of an exponent, as the reference writes it. -/
theorem power_select (n : BitVec 32) :
    (if IntOp.cmpi .sgt n 127#32 = 1 then Ideal.ofBits .f32 0x7F800000#32
      else if IntOp.cmpi .slt n 4294967170#32 = 1 then Ideal.ofBits .f32 0x00000000#32
      else Ideal.exp2 (((n.toInt : ℝ)) : EReal)) = powerOfTwo n := by
  have h1 : IntOp.cmpi .sgt n 127#32 = 1 ↔ n.toInt > 127 := by
    show BitVec.ofBool ((127#32).slt n) = 1 ↔ _
    rw [BitVec.slt_eq_decide, show (127#32).toInt = 127 from rfl]
    by_cases h : (127 : ℤ) < n.toInt <;> simp [h]
  have h2 : IntOp.cmpi .slt n 4294967170#32 = 1 ↔ n.toInt < -126 := by
    show BitVec.ofBool (n.slt 4294967170#32) = 1 ↔ _
    rw [BitVec.slt_eq_decide, show (4294967170#32).toInt = -126 from rfl]
    by_cases h : n.toInt < (-126 : ℤ) <;> simp [h]
  unfold powerOfTwo
  simp only [h1, h2, bits_top, bits_zero, exp2_int]

/-! ## The results -/

/-- The scale of row `r`. -/
theorem pay2_apply (r : Fin 2048) :
    (k0_pay2 (F := Ideal) (k0_pay6 x w xs ws b) (k0_pay9 x w xs ws b) (k0_pay10 x w xs ws b) (ix2 r 0) : EReal)
      = rowScale (largest fun c : Fin 4608 => (k0_pay4 x w xs ws b (ix2 r c) : EReal)) := by
  have hs := small_rowExponent (largest_nonneg_of_pos (by decide) fun c : Fin 4608 => (k0_pay4 x w xs ws b (ix2 r c) : EReal))
  have e : (k0_pay2 (F := Ideal) (k0_pay6 x w xs ws b) (k0_pay9 x w xs ws b) (k0_pay10 x w xs ws b) (ix2 r 0) : EReal)
      = powerOfTwo (exponentArr x w xs ws b (ix2 r 0)) := by
    rw [← power_select]
    unfold k0_pay2 exponentArr
    generalize k0_pay1 (k0_pay6 x w xs ws b) (k0_pay9 x w xs ws b) (k0_pay10 x w xs ws b) = n
    rfl
  rw [e, exponentArr_apply]
  exact (ldexp1_eq hs).symm

/-- The factor, the rounding range and the product that make a code, for any exponents and any `y`. -/
theorem codes_select (y : FVec Ideal S2048x4608 .f32) (v20 v38 : IVec S2048x1 1) (v40 : IVec S2048x1 32) (r : Fin 2048) (c : Fin 4608) :
    (k0_pay3 y v20 v38 v40 (ix2 r c) : EReal)
      = min (Ideal.ofBits .f32 0x43E00000#32) (max (Ideal.ofBits .f32 0xC3E00000#32)
          (y (ix2 r c) * powerOfTwo (0#32 - k0_pay1 v20 v38 v40 (ix2 r 0)))) := by
  rw [← power_select]
  unfold k0_pay3
  generalize k0_pay1 v20 v38 v40 = n
  pointwise
  rfl

/-- The code at row `r` and column `c`. -/
theorem pay3_apply (r : Fin 2048) (c : Fin 4608) :
    (k0_pay3 (k0_pay4 x w xs ws b) (k0_pay6 x w xs ws b) (k0_pay9 x w xs ws b) (k0_pay10 x w xs ws b) (ix2 r c) : EReal)
      = rowCode (largest fun c : Fin 4608 => (k0_pay4 x w xs ws b (ix2 r c) : EReal)) (k0_pay4 x w xs ws b (ix2 r c)) := by
  have hs := small_rowExponent (largest_nonneg_of_pos (by decide) fun c : Fin 4608 => (k0_pay4 x w xs ws b (ix2 r c) : EReal))
  have he : k0_pay1 (k0_pay6 x w xs ws b) (k0_pay9 x w xs ws b) (k0_pay10 x w xs ws b) (ix2 r 0) = _ := exponentArr_apply x w xs ws b r
  rw [codes_select, he]
  unfold rowCode
  rw [← ldexp1_eq hs.neg]

end Cert.ReferenceIdeal.Hand

end
-- ==== Proof.RefRun.lean ====
/- The reference's run, with exact arithmetic: its two results are the scales and the codes of its arguments, which end
   unchanged. -/
module

public import proofs.«01_k».proof.Proof.RefValues
public import proofs.«01_k».proof.Proof.Gen.ReferenceIdeal.Frame
public import Idealize.ShloMosaic.Lib.Pipeline.Value

@[expose] public section

set_option maxRecDepth 16384

noncomputable section

namespace Cert.ReferenceIdeal.Hand

open Cert.ReferenceIdeal Cert.ReferenceIdeal.Gen Cert.Math
open Idealize.ShloMosaic Idealize.ShloMosaic.TcCoe Idealize.ShloMosaic.Tactic
open Idealize.SL.Sem
open Idealize.ShloMosaic.Pipeline (Dat)
open Idealize.ShloMosaic.ValueIdx (idx2_lt0 idx2_lt1)

variable (m : (ℓ : Loc nD τ sig) → Buf (Elt Ideal) ℓ) (ρ : Dev nD → PrngReg) (c : Dev nD)

/-! ## The arrays the launch reads -/

/-- The contents at the launch are those after the reshapes before it. -/
theorem V_eq (d : Ref sig .tc) : V m c d = StableHlo.after hostOps0 (fun d => m (c, d)) (Proc.devRef .tc d) := by
  show StableHlo.after (List.flatten [hostOps0]) _ _ = _
  rw [List.flatten_cons, List.flatten_nil, List.append_nil]

theorem V_v0 (r : Fin 2048) (q : Fin 3072) : (V m c main_v0 (ix2 r q) : EReal)
    = m ((c : Thread nD τ).loc main_arg0) (ix3 ⟨r.val / 1024, by omega⟩ ⟨r.val % 1024, by omega⟩ q) := by
  rw [V_eq]
  entry_read
  pointwise

theorem V_v1 (r : Fin 2048) : (V m c main_v1 (ix2 r 0) : EReal)
    = m ((c : Thread nD τ).loc main_arg1) (ix3 ⟨r.val / 1024, by omega⟩ ⟨r.val % 1024, by omega⟩ 0) := by
  rw [V_eq]
  entry_read
  pointwise

theorem V_v2 (n : Fin 4608) : (V m c main_v2 (ix2 0 n) : EReal) = m ((c : Thread nD τ).loc main_arg3) (ix1 n) := by
  rw [V_eq]
  entry_read
  pointwise

theorem V_v3 (n : Fin 4608) : (V m c main_v3 (ix2 0 n) : EReal) = m ((c : Thread nD τ).loc main_arg4) (ix1 n) := by
  rw [V_eq]
  entry_read
  pointwise

/-! ## What the one point loads: each array whole -/

/-- The one grid point. -/
def t₀ : Fin cfg0.N := ⟨0, by decide⟩

theorem iblk0_eq : iblk m c 0 t₀ = V m c main_v0 := by
  have hz : (fun a => (win0_0.index t₀) a * main_v0.ty.shape.size a) = fun _ => 0 := funext fun a => by fin_cases a <;> decide
  unfold iblk
  exact Memref.read_access_unit_zero (Elt Ideal) main_v0 hz (fun a => by fin_cases a <;> decide) _

theorem iblk1_eq : iblk m c 1 t₀ = V m c main_v1 := by
  have hz : (fun a => (win0_1.index t₀) a * main_v1.ty.shape.size a) = fun _ => 0 := funext fun a => by fin_cases a <;> decide
  unfold iblk
  exact Memref.read_access_unit_zero (Elt Ideal) main_v1 hz (fun a => by fin_cases a <;> decide) _

theorem iblk2_eq : iblk m c 2 t₀ = m ((c : Thread nD τ).loc main_arg2) := by
  have hz : (fun a => (win0_2.index t₀) a * main_arg2.ty.shape.size a) = fun _ => 0 := funext fun a => by fin_cases a <;> decide
  unfold iblk
  exact (Memref.read_access_unit_zero (Elt Ideal) main_arg2 hz (fun a => by fin_cases a <;> decide) _).trans (V_main_arg2 m c)

theorem iblk3_eq : iblk m c 3 t₀ = V m c main_v2 := by
  have hz : (fun a => (win0_3.index t₀) a * main_v2.ty.shape.size a) = fun _ => 0 := funext fun a => by fin_cases a <;> decide
  unfold iblk
  exact Memref.read_access_unit_zero (Elt Ideal) main_v2 hz (fun a => by fin_cases a <;> decide) _

theorem iblk4_eq : iblk m c 4 t₀ = V m c main_v3 := by
  have hz : (fun a => (win0_4.index t₀) a * main_v3.ty.shape.size a) = fun _ => 0 := funext fun a => by fin_cases a <;> decide
  unfold iblk
  exact Memref.read_access_unit_zero (Elt Ideal) main_v3 hz (fun a => by fin_cases a <;> decide) _

/-! ## What the body leaves -/

section
variable (x0 : Vec Ideal S2048x3072 .fp8e4m3) (x1 : Vec Ideal S2048x1 .f32) (x2 : Vec Ideal S3072x4608 .fp8e4m3)
  (x3 x4 : Vec Ideal S1x4608 .f32)

/-- The first output's buffer holds the scales of the loaded arrays. -/
theorem out5_eq : out0_5 x0 x1 x2 x3 x4 = k0_pay2 (F := Ideal) (k0_pay6 x0 x2 x1 x3 x4) (k0_pay9 x0 x2 x1 x3 x4) (k0_pay10 x0 x2 x1 x3 x4) := by
  have h0 : (![0, 0] : Fin S2048x3072.rank → Nat) = fun _ => 0 := funext fun a => by fin_cases a <;> rfl
  have h1 : (![0, 0] : Fin S2048x1.rank → Nat) = fun _ => 0 := funext fun a => by fin_cases a <;> rfl
  have h2 : (![0, 0] : Fin S3072x4608.rank → Nat) = fun _ => 0 := funext fun a => by fin_cases a <;> rfl
  have h3 : (![0, 0] : Fin S1x4608.rank → Nat) = fun _ => 0 := funext fun a => by fin_cases a <;> rfl
  unfold_out out0_5
  rw [View.canon_unit_zero h1, View.ld_unit_zero h0, View.ld_unit_zero h1, View.ld_unit_zero h2, View.ld_unit_zero h3, View.ld_unit_zero h3]

/-- The second output's buffer holds the codes of the loaded arrays. -/
theorem out6_eq : out0_6 x0 x1 x2 x3 x4 = k0_pay3 (k0_pay4 x0 x2 x1 x3 x4) (k0_pay6 x0 x2 x1 x3 x4) (k0_pay9 x0 x2 x1 x3 x4) (k0_pay10 x0 x2 x1 x3 x4) := by
  have h0 : (![0, 0] : Fin S2048x3072.rank → Nat) = fun _ => 0 := funext fun a => by fin_cases a <;> rfl
  have h1 : (![0, 0] : Fin S2048x1.rank → Nat) = fun _ => 0 := funext fun a => by fin_cases a <;> rfl
  have h2 : (![0, 0] : Fin S3072x4608.rank → Nat) = fun _ => 0 := funext fun a => by fin_cases a <;> rfl
  have h3 : (![0, 0] : Fin S1x4608.rank → Nat) = fun _ => 0 := funext fun a => by fin_cases a <;> rfl
  have h4 : (![0, 0] : Fin S2048x4608.rank → Nat) = fun _ => 0 := funext fun a => by fin_cases a <;> rfl
  unfold_out out0_6
  rw [View.canon_unit_zero h4, View.ld_unit_zero h0, View.ld_unit_zero h1, View.ld_unit_zero h2, View.ld_unit_zero h3, View.ld_unit_zero h3]
end

/-! ## The two output arrays at the end -/

theorem final5 : (dats m 0 c).arrAt 5 cfg0.N = out0_5 (V m c main_v0) (V m c main_v1) (m ((c : Thread nD τ).loc main_arg2)) (V m c main_v2) (V m c main_v3) := by
  have ho : ((cfg0.win 5).blk t₀).view.read (Elt Ideal) ((dats m 0 c).arrAt 5 cfg0.N) = (dats m 0 c).flushed 5 t₀ := by
    rw [show cfg0.N = (t₀ : Fin cfg0.N).val + 1 from rfl, (dats m 0 c).arrAt_succ 5 t₀]
    rw [show (cfg0.win 5).flush t₀ = true from by decide, if_pos rfl]
    exact View.read_write_univ _ _
  have hz : (fun a => (win0_5.index t₀) a * main_v4_0.ty.shape.size a) = fun _ => 0 := funext fun a => by fin_cases a <;> decide
  have hr := fun f => Memref.read_access_unit_zero (Elt Ideal) main_v4_0 hz (fun a => by fin_cases a <;> decide) f
  rw [hr] at ho
  rw [ho]
  show (cfg0.win 5).cut _ ((dats m 0 c).after 5 t₀) = _
  rw [after0_5, iblk0_eq, iblk1_eq, iblk2_eq, iblk3_eq, iblk4_eq]
  generalize out0_5 (V m c main_v0) (V m c main_v1) (m ((c : Thread nD τ).loc main_arg2)) (V m c main_v2) (V m c main_v3) = z
  rfl

theorem final6 : (dats m 0 c).arrAt 6 cfg0.N = out0_6 (V m c main_v0) (V m c main_v1) (m ((c : Thread nD τ).loc main_arg2)) (V m c main_v2) (V m c main_v3) := by
  have ho : ((cfg0.win 6).blk t₀).view.read (Elt Ideal) ((dats m 0 c).arrAt 6 cfg0.N) = (dats m 0 c).flushed 6 t₀ := by
    rw [show cfg0.N = (t₀ : Fin cfg0.N).val + 1 from rfl, (dats m 0 c).arrAt_succ 6 t₀]
    rw [show (cfg0.win 6).flush t₀ = true from by decide, if_pos rfl]
    exact View.read_write_univ _ _
  have hz : (fun a => (win0_6.index t₀) a * main_v4_1.ty.shape.size a) = fun _ => 0 := funext fun a => by fin_cases a <;> decide
  have hr := fun f => Memref.read_access_unit_zero (Elt Ideal) main_v4_1 hz (fun a => by fin_cases a <;> decide) f
  rw [hr] at ho
  rw [ho]
  show (cfg0.win 6).cut _ ((dats m 0 c).after 6 t₀) = _
  rw [after0_6, iblk0_eq, iblk1_eq, iblk2_eq, iblk3_eq, iblk4_eq]
  generalize out0_6 (V m c main_v0) (V m c main_v1) (m ((c : Thread nD τ).loc main_arg2)) (V m c main_v2) (V m c main_v3) = z
  rfl

/-! ## The results as functions of the arguments -/

/-- Row `r` of `y`, of the arrays the launch reads, is that of token `r`. -/
theorem y_row (r : Fin 2048) (n : Fin 4608) :
    (k0_pay4 (V m c main_v0) (m ((c : Thread nD τ).loc main_arg2)) (V m c main_v1) (V m c main_v2) (V m c main_v3) (ix2 r n) : EReal)
      = yAt (m ((c : Thread nD τ).loc main_arg0)) (m ((c : Thread nD τ).loc main_arg1)) (m ((c : Thread nD τ).loc main_arg2))
          (m ((c : Thread nD τ).loc main_arg3)) (m ((c : Thread nD τ).loc main_arg4)) r n := by
  refine (pay4_apply _ _ _ _ _ r n).trans ?_
  unfold yAt linear
  rw [V_v1, V_v2, V_v3]
  exact congrArg (fun s => s * _ * _ + _) (Finset.sum_congr rfl fun q _ => congrArg (· * _) (V_v0 m c r q))

/-- The array of the scales holds token `r`'s scale in row `r`. -/
theorem scale_row (r : Fin 2048) : ((dats m 0 c).arrAt 5 cfg0.N (ix2 r 0) : EReal)
    = scaleAt (m ((c : Thread nD τ).loc main_arg0)) (m ((c : Thread nD τ).loc main_arg1)) (m ((c : Thread nD τ).loc main_arg2))
          (m ((c : Thread nD τ).loc main_arg3)) (m ((c : Thread nD τ).loc main_arg4)) r := by
  rw [final5, out5_eq]
  refine (pay2_apply _ _ _ _ _ r).trans ?_
  unfold scaleAt
  exact congrArg (fun f => rowScale (largest f)) (funext fun n => y_row m c r n)

/-- The array of the codes. -/
theorem codes_eq : (dats m 0 c).arrAt 6 cfg0.N
    = codeArray (m ((c : Thread nD τ).loc main_arg0)) (m ((c : Thread nD τ).loc main_arg1)) (m ((c : Thread nD τ).loc main_arg2))
          (m ((c : Thread nD τ).loc main_arg3)) (m ((c : Thread nD τ).loc main_arg4)) := by
  rw [final6, out6_eq]
  funext j
  obtain ⟨r, n, rfl⟩ : ∃ (r : Fin 2048) (n : Fin 4608), j = ix2 r n :=
    ⟨⟨(j 0).val, idx2_lt0 j⟩, ⟨(j 1).val, idx2_lt1 j⟩, funext fun a => by fin_cases a <;> rfl⟩
  refine (pay3_apply _ _ _ _ _ r n).trans ?_
  show _ = codeAt _ _ _ _ _ r n
  unfold codeAt
  exact congrArg₂ (fun f v => rowCode (largest f) v) (funext fun n => y_row m c r n) (y_row m c r n)

/-- The first result: the scales, 128 tokens to a row. -/
theorem scales_eq : Pipeline.afterTail₀ cfgs (dats m) 0 (V0 m) [hostOps1] c main_v5
    = scaleArray (m ((c : Thread nD τ).loc main_arg0)) (m ((c : Thread nD τ).loc main_arg1)) (m ((c : Thread nD τ).loc main_arg2))
          (m ((c : Thread nD τ).loc main_arg3)) (m ((c : Thread nD τ).loc main_arg4)) := by
  have hA : Pipeline.withArrays cfg0.spec c (V0 m c) (fun w => (dats m 0 c).arrAt w cfg0.N) (Proc.devRef .tc main_v4_0)
      = (dats m 0 c).arrAt 5 cfg0.N :=
    Pipeline.withArrays_arr cfg0.spec (by decide) c (V0 m c) (fun w => (dats m 0 c).arrAt w cfg0.N) 5
  have hrow := scale_row m c
  unfold Pipeline.afterTail₀
  show StableHlo.after (List.flatten [hostOps1])
    (Pipeline.withArrays cfg0.spec c (V0 m c) (fun w => (dats m 0 c).arrAt w cfg0.N)) (Proc.devRef .tc main_v5) = _
  generalize Pipeline.withArrays cfg0.spec c (V0 m c) (fun w => (dats m 0 c).arrAt w cfg0.N) = W at *
  generalize (dats m 0 c).arrAt 5 cfg0.N = z at *
  rw [List.flatten_cons, List.flatten_nil, List.append_nil]
  entry_read
  rw [hA]
  funext j
  obtain ⟨r, n, rfl⟩ : ∃ (r : Fin 16) (n : Fin 128), j = ix2 r n :=
    ⟨⟨(j 0).val, idx2_lt0 j⟩, ⟨(j 1).val, idx2_lt1 j⟩, funext fun a => by fin_cases a <;> rfl⟩
  show _ = scaleAt _ _ _ _ _ ⟨128 * r.val + n.val, _⟩
  rw [← hrow]
  pointwise
  exact congrArg (fun q => z (ix2 q 0)) (Fin.ext (by show r.val * 128 + n.val = 128 * r.val + n.val; omega))

/-- The run: the results are the scales and the codes of the arguments, and the arguments end unchanged. -/
theorem run_values : θ_run (defs (F := Ideal)) (onTc (τ := τ) (main (F := Ideal))) ⟨m, fun _ => 0, ρ⟩ (fun r => ∀ c : Dev nD,
      r.2.mem ((c.tc : Thread nD τ).loc main_v5)
        = scaleArray (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_v4_1)
        = codeArray (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (run_main m ρ)
  exact ⟨((h c).2 main_v5 (Pipeline.mem_restRefs_of main_v5 (by decide) (by decide))).trans (scales_eq m c),
    ((h c).1 6).trans (codes_eq m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).1 2).trans (((dats m 0 c).arrAt_in 2 rfl _).trans ((A_eq m c 2).trans (V_main_arg2 m c))),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c)⟩

end Cert.ReferenceIdeal.Hand

end
-- ==== Proof.lean ====
/- The whole claim: the frames of the kernel, of its idealization and of the reference, the (empty) ledger of the
   idealization, and the equality of both results of the kernel with the reference's. -/
module

public import proofs.«01_k».proof.Defs
public import proofs.«01_k».proof.Proof.KernelFrame
public import proofs.«01_k».proof.Proof.Gen.ReferenceIdeal.Frame
public import proofs.«01_k».proof.Proof.KernelValues
public import proofs.«01_k».proof.Proof.RefRun

@[expose] public section

open Idealize.ShloMosaic Idealize.ShloMosaic.TcCoe Idealize.SL.Sem

/-- From memories that agree on the five arguments, kernel and reference end with the same scales and the same codes:
    those that the arguments make (`Cert.Math.scaleArray`, `Cert.Math.codeArray`). -/
theorem Cert.Proof.algebraic :
    Cert.algebraic_KernelIdeal_ReferenceIdeal (hKernelIdeal := Cert.KernelIdeal.Gen.facts)
      (hReferenceIdeal := Cert.ReferenceIdeal.Gen.facts) := by
  intro m g m' g' _ agree
  refine ⟨fun c => Cert.KernelIdeal.Hand.scales m c, fun c => Cert.KernelIdeal.Hand.codesArr m c,
    Cert.KernelIdeal.Hand.run_values g, (θ_run _ _ _).mono (fun r h c => ?_) (Cert.ReferenceIdeal.Hand.run_values m' g')⟩
  obtain ⟨a0, a1, a2, a3, a4⟩ := agree c
  obtain ⟨h0, h1, kept⟩ := h c
  refine ⟨h0.trans ?_, h1.trans ?_, kept⟩
  · refine Eq.trans ?_ (Cert.KernelIdeal.Hand.scales_eq m c).symm
    exact congr (congr (congr (congr (congrArg Cert.Math.scaleArray a0) a1) a2) a3) a4
  · refine Eq.trans ?_ (Cert.KernelIdeal.Hand.codesArr_eq m c).symm
    exact congr (congr (congr (congr (congrArg Cert.Math.codeArray a0) a1) a2) a3) a4

theorem Cert.Proof.claim : Cert.Claim :=
  ⟨Cert.Kernel.Gen.facts, Cert.KernelIdeal.Gen.facts, Cert.ReferenceIdeal.Gen.facts,
    fun _ ρ _ => Cert.Kernel.Hand.frame ρ, fun _ ρ _ => Cert.KernelIdeal.Hand.frame ρ,
    fun m ρ _ => Cert.ReferenceIdeal.Gen.frame m ρ, trivial, Cert.Proof.algebraic⟩
